-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v17_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x8x2 : Shape := ⟨3, ![16384, 8, 2]⟩
abbrev S16384x64x8x2 : Shape := ⟨4, ![16384, 64, 8, 2]⟩
abbrev S1024x128 : Shape := ⟨2, ![1024, 128]⟩
abbrev S2048x32 : Shape := ⟨2, ![2048, 32]⟩
abbrev S16384x16 : Shape := ⟨2, ![16384, 16]⟩
abbrev S16384x1024 : Shape := ⟨2, ![16384, 1024]⟩
abbrev S1024x64 : Shape := ⟨2, ![1024, 64]⟩
abbrev S_ : Shape := ⟨0, ![]⟩
abbrev S1024x192 : Shape := ⟨2, ![1024, 192]⟩
abbrev S16384x8 : Shape := ⟨2, ![16384, 8]⟩
abbrev S16384x64 : Shape := ⟨2, ![16384, 64]⟩
abbrev S512x16 : Shape := ⟨2, ![512, 16]⟩
abbrev S512x1024 : Shape := ⟨2, ![512, 1024]⟩
abbrev S512x8 : Shape := ⟨2, ![512, 8]⟩
abbrev S512x64 : Shape := ⟨2, ![512, 64]⟩
abbrev S512x192 : Shape := ⟨2, ![512, 192]⟩
abbrev S512x128 : Shape := ⟨2, ![512, 128]⟩
abbrev S512x1 : Shape := ⟨2, ![512, 1]⟩
abbrev S512x256 : Shape := ⟨2, ![512, 256]⟩
abbrev S512x2048 : Shape := ⟨2, ![512, 2048]⟩
abbrev S512x32 : Shape := ⟨2, ![512, 32]⟩
abbrev S16384x8x1 : Shape := ⟨3, ![16384, 8, 1]⟩
abbrev S16384x8x3 : Shape := ⟨3, ![16384, 8, 3]⟩

abbrev nBuf : Space → Nat
  | .hbm => 32
  | .vmem => 15
  | .smem => 0
  | _ => 0

abbrev bufTy : (tb : Table) → Fin (tcTables nBuf tb) → BufTy
  | .hbm, ⟨0, _⟩ => ⟨S16384x8x2, .f32⟩
  | .hbm, ⟨1, _⟩ => ⟨S16384x64x8x2, .f32⟩
  | .hbm, ⟨2, _⟩ => ⟨S1024x128, .f32⟩
  | .hbm, ⟨3, _⟩ => ⟨S2048x32, .f32⟩
  | .hbm, ⟨4, _⟩ => ⟨S16384x16, .f32⟩
  | .hbm, ⟨5, _⟩ => ⟨S16384x1024, .f32⟩
  | .hbm, ⟨6, _⟩ => ⟨S1024x64, .i32⟩
  | .hbm, ⟨7, _⟩ => ⟨S1024x64, .i32⟩
  | .hbm, ⟨8, _⟩ => ⟨S_, .i32⟩
  | .hbm, ⟨9, _⟩ => ⟨S1024x64, .i32⟩
  | .hbm, ⟨10, _⟩ => ⟨S1024x64, .i32⟩
  | .hbm, ⟨11, _⟩ => ⟨S1024x64, .i1⟩
  | .hbm, ⟨12, _⟩ => ⟨S_, .i32⟩
  | .hbm, ⟨13, _⟩ => ⟨S1024x64, .i32⟩
  | .hbm, ⟨14, _⟩ => ⟨S1024x64, .i32⟩
  | .hbm, ⟨15, _⟩ => ⟨S1024x64, .i1⟩
  | .hbm, ⟨16, _⟩ => ⟨S1024x64, .i1⟩
  | .hbm, ⟨17, _⟩ => ⟨S_, .i32⟩
  | .hbm, ⟨18, _⟩ => ⟨S1024x64, .i32⟩
  | .hbm, ⟨19, _⟩ => ⟨S1024x64, .i32⟩
  | .hbm, ⟨20, _⟩ => ⟨S1024x64, .i1⟩
  | .hbm, ⟨21, _⟩ => ⟨S1024x64, .i1⟩
  | .hbm, ⟨22, _⟩ => ⟨S1024x192, .i1⟩
  | .hbm, ⟨23, _⟩ => ⟨S1024x192, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x64, .f32⟩
  | .hbm, ⟨28, _⟩ => ⟨S16384x8x1, .f32⟩
  | .hbm, ⟨29, _⟩ => ⟨S16384x8x1, .f32⟩
  | .hbm, ⟨30, _⟩ => ⟨S16384x8x1, .f32⟩
  | .hbm, ⟨31, _⟩ => ⟨S16384x8x3, .f32⟩
  | .local _ .vmem, ⟨0, _⟩ => ⟨S512x16, .f32⟩
  | .local _ .vmem, ⟨1, _⟩ => ⟨S512x16, .f32⟩
  | .local _ .vmem, ⟨2, _⟩ => ⟨S512x1024, .f32⟩
  | .local _ .vmem, ⟨3, _⟩ => ⟨S512x1024, .f32⟩
  | .local _ .vmem, ⟨4, _⟩ => ⟨S1024x192, .f32⟩
  | .local _ .vmem, ⟨5, _⟩ => ⟨S1024x128, .f32⟩
  | .local _ .vmem, ⟨6, _⟩ => ⟨S2048x32, .f32⟩
  | .local _ .vmem, ⟨7, _⟩ => ⟨S512x8, .f32⟩
  | .local _ .vmem, ⟨8, _⟩ => ⟨S512x8, .f32⟩
  | .local _ .vmem, ⟨9, _⟩ => ⟨S512x8, .f32⟩
  | .local _ .vmem, ⟨10, _⟩ => ⟨S512x8, .f32⟩
  | .local _ .vmem, ⟨11, _⟩ => ⟨S512x8, .f32⟩
  | .local _ .vmem, ⟨12, _⟩ => ⟨S512x8, .f32⟩
  | .local _ .vmem, ⟨13, _⟩ => ⟨S512x64, .f32⟩
  | .local _ .vmem, ⟨14, _⟩ => ⟨S512x64, .f32⟩
  | _, _ => ⟨S16384x8x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x8x2 : Shape := ⟨3, ![16384, 8, 2]⟩
abbrev S16384x64x8x2 : Shape := ⟨4, ![16384, 64, 8, 2]⟩
abbrev S16384x1x2 : Shape := ⟨3, ![16384, 1, 2]⟩
abbrev S16384x64x1x2 : Shape := ⟨4, ![16384, 64, 1, 2]⟩
abbrev S16384x64x2 : Shape := ⟨3, ![16384, 64, 2]⟩
abbrev S_ : Shape := ⟨0, ![]⟩
abbrev S16384x64 : Shape := ⟨2, ![16384, 64]⟩
abbrev S16384x1 : Shape := ⟨2, ![16384, 1]⟩
abbrev S16384x2 : Shape := ⟨2, ![16384, 2]⟩
abbrev S16384x64x1 : Shape := ⟨3, ![16384, 64, 1]⟩
abbrev S16384 : Shape := ⟨1, ![16384]⟩
abbrev S1x16384 : Shape := ⟨2, ![1, 16384]⟩
abbrev S3x16384 : Shape := ⟨2, ![3, 16384]⟩
abbrev S1x3x16384 : Shape := ⟨3, ![1, 3, 16384]⟩
abbrev S8x3x16384 : Shape := ⟨3, ![8, 3, 16384]⟩
abbrev S16384x8x3 : Shape := ⟨3, ![16384, 8, 3]⟩

abbrev nBuf : Space → Nat
  | .hbm => 288
  | .vmem => 0
  | .smem => 0
  | _ => 0

abbrev hbmTy0_0 (i : Nat) : BufTy := match i % 128 with
  | 0 => ⟨S16384x8x2, .f32⟩
  | 1 => ⟨S16384x64x8x2, .f32⟩
  | 2 => ⟨S16384x1x2, .f32⟩
  | 3 => ⟨S16384x1x2, .f32⟩
  | 4 => ⟨S16384x1x2, .f32⟩
  | 5 => ⟨S16384x64x1x2, .f32⟩
  | 6 => ⟨S16384x64x2, .f32⟩
  | 7 => ⟨S16384x64x1x2, .f32⟩
  | 8 => ⟨S16384x64x2, .f32⟩
  | 9 => ⟨S16384x64x2, .f32⟩
  | 10 => ⟨S16384x64x2, .f32⟩
  | 11 => ⟨S_, .f32⟩
  | 12 => ⟨S16384x64, .f32⟩
  | 13 => ⟨S16384x64, .f32⟩
  | 14 => ⟨S16384x1x2, .f32⟩
  | 15 => ⟨S_, .f32⟩
  | 16 => ⟨S16384x1, .f32⟩
  | 17 => ⟨S16384x1, .f32⟩
  | 18 => ⟨S_, .f32⟩
  | 19 => ⟨S16384x64, .f32⟩
  | 20 => ⟨S16384x64, .f32⟩
  | 21 => ⟨S_, .f32⟩
  | 22 => ⟨S16384x1, .f32⟩
  | 23 => ⟨S16384x1, .f32⟩
  | 24 => ⟨S16384x64, .f32⟩
  | 25 => ⟨S16384x64, .f32⟩
  | 26 => ⟨S16384x64x1x2, .f32⟩
  | 27 => ⟨S16384x64x2, .f32⟩
  | 28 => ⟨S16384x1x2, .f32⟩
  | 29 => ⟨S16384x2, .f32⟩
  | 30 => ⟨S16384x1x2, .f32⟩
  | 31 => ⟨S16384x64x2, .f32⟩
  | 32 => ⟨S16384x64x2, .f32⟩
  | 33 => ⟨S16384x64x2, .f32⟩
  | 34 => ⟨S_, .f32⟩
  | 35 => ⟨S16384x64, .f32⟩
  | 36 => ⟨S16384x64, .f32⟩
  | 37 => ⟨S16384x64x1, .f32⟩
  | 38 => ⟨S16384x64, .f32⟩
  | 39 => ⟨S16384x64x1, .f32⟩
  | 40 => ⟨S16384x64, .f32⟩
  | 41 => ⟨S16384x64, .f32⟩
  | 42 => ⟨S_, .f32⟩
  | 43 => ⟨S_, .f32⟩
  | 44 => ⟨S16384x64, .f32⟩
  | 45 => ⟨S16384x64, .f32⟩
  | 46 => ⟨S_, .f32⟩
  | 47 => ⟨S16384x64, .f32⟩
  | 48 => ⟨S16384x64, .i1⟩
  | 49 => ⟨S_, .f32⟩
  | 50 => ⟨S16384x64, .f32⟩
  | 51 => ⟨S16384x64, .i1⟩
  | 52 => ⟨S_, .f32⟩
  | 53 => ⟨S_, .i1⟩
  | 54 => ⟨S16384x64, .i1⟩
  | 55 => ⟨S16384x64, .i1⟩
  | 56 => ⟨S16384x64, .i1⟩
  | 57 => ⟨S16384x64, .f32⟩
  | 58 => ⟨S16384x64, .f32⟩
  | 59 => ⟨S16384x64, .f32⟩
  | 60 => ⟨S_, .f32⟩
  | 61 => ⟨S16384x64, .f32⟩
  | 62 => ⟨S16384x64, .f32⟩
  | 63 => ⟨S16384x64, .i32⟩
  | 64 => ⟨S_, .f32⟩
  | 65 => ⟨S16384x64, .f32⟩
  | 66 => ⟨S_, .f32⟩
  | 67 => ⟨S16384x64, .f32⟩
  | 68 => ⟨S16384x64, .i1⟩
  | 69 => ⟨S16384x64, .i32⟩
  | 70 => ⟨S16384x64, .i32⟩
  | 71 => ⟨S_, .i32⟩
  | 72 => ⟨S16384x64, .i32⟩
  | 73 => ⟨S16384x64, .i32⟩
  | 74 => ⟨S_, .i32⟩
  | 75 => ⟨S16384x64, .i32⟩
  | 76 => ⟨S16384x64, .i32⟩
  | 77 => ⟨S16384x64, .i32⟩
  | 78 => ⟨S_, .i32⟩
  | 79 => ⟨S16384x64, .i32⟩
  | 80 => ⟨S16384x64, .i1⟩
  | 81 => ⟨S16384x64, .f32⟩
  | 82 => ⟨S_, .f32⟩
  | 83 => ⟨S16384, .f32⟩
  | 84 => ⟨S_, .f32⟩
  | 85 => ⟨S16384, .f32⟩
  | 86 => ⟨S16384, .f32⟩
  | 87 => ⟨S16384x64, .f32⟩
  | 88 => ⟨S_, .f32⟩
  | 89 => ⟨S16384, .f32⟩
  | 90 => ⟨S16384, .f32⟩
  | 91 => ⟨S16384x64, .f32⟩
  | 92 => ⟨S_, .f32⟩
  | 93 => ⟨S16384, .f32⟩
  | 94 => ⟨S16384, .f32⟩
  | 95 => ⟨S16384x64, .f32⟩
  | 96 => ⟨S_, .f32⟩
  | 97 => ⟨S16384, .f32⟩
  | 98 => ⟨S16384, .f32⟩
  | 99 => ⟨S1x16384, .f32⟩
  | 100 => ⟨S1x16384, .f32⟩
  | 101 => ⟨S1x16384, .f32⟩
  | 102 => ⟨S3x16384, .f32⟩
  | 103 => ⟨S_, .i32⟩
  | 104 => ⟨S16384x64, .i32⟩
  | 105 => ⟨S16384x64, .i1⟩
  | 106 => ⟨S16384x64, .f32⟩
  | 107 => ⟨S_, .f32⟩
  | 108 => ⟨S16384, .f32⟩
  | 109 => ⟨S_, .f32⟩
  | 110 => ⟨S16384, .f32⟩
  | 111 => ⟨S16384, .f32⟩
  | 112 => ⟨S16384x64, .f32⟩
  | 113 => ⟨S_, .f32⟩
  | 114 => ⟨S16384, .f32⟩
  | 115 => ⟨S16384, .f32⟩
  | 116 => ⟨S16384x64, .f32⟩
  | 117 => ⟨S_, .f32⟩
  | 118 => ⟨S16384, .f32⟩
  | 119 => ⟨S16384, .f32⟩
  | 120 => ⟨S16384x64, .f32⟩
  | 121 => ⟨S_, .f32⟩
  | 122 => ⟨S16384, .f32⟩
  | 123 => ⟨S16384, .f32⟩
  | 124 => ⟨S1x16384, .f32⟩
  | 125 => ⟨S1x16384, .f32⟩
  | 126 => ⟨S1x16384, .f32⟩
  | 127 => ⟨S3x16384, .f32⟩
  | _ => ⟨S16384x8x2, .f32⟩

abbrev hbmTy0_1 (i : Nat) : BufTy := match i % 128 with
  | 0 => ⟨S_, .i32⟩
  | 1 => ⟨S16384x64, .i32⟩
  | 2 => ⟨S16384x64, .i1⟩
  | 3 => ⟨S16384x64, .f32⟩
  | 4 => ⟨S_, .f32⟩
  | 5 => ⟨S16384, .f32⟩
  | 6 => ⟨S_, .f32⟩
  | 7 => ⟨S16384, .f32⟩
  | 8 => ⟨S16384, .f32⟩
  | 9 => ⟨S16384x64, .f32⟩
  | 10 => ⟨S_, .f32⟩
  | 11 => ⟨S16384, .f32⟩
  | 12 => ⟨S16384, .f32⟩
  | 13 => ⟨S16384x64, .f32⟩
  | 14 => ⟨S_, .f32⟩
  | 15 => ⟨S16384, .f32⟩
  | 16 => ⟨S16384, .f32⟩
  | 17 => ⟨S16384x64, .f32⟩
  | 18 => ⟨S_, .f32⟩
  | 19 => ⟨S16384, .f32⟩
  | 20 => ⟨S16384, .f32⟩
  | 21 => ⟨S1x16384, .f32⟩
  | 22 => ⟨S1x16384, .f32⟩
  | 23 => ⟨S1x16384, .f32⟩
  | 24 => ⟨S3x16384, .f32⟩
  | 25 => ⟨S_, .i32⟩
  | 26 => ⟨S16384x64, .i32⟩
  | 27 => ⟨S16384x64, .i1⟩
  | 28 => ⟨S16384x64, .f32⟩
  | 29 => ⟨S_, .f32⟩
  | 30 => ⟨S16384, .f32⟩
  | 31 => ⟨S_, .f32⟩
  | 32 => ⟨S16384, .f32⟩
  | 33 => ⟨S16384, .f32⟩
  | 34 => ⟨S16384x64, .f32⟩
  | 35 => ⟨S_, .f32⟩
  | 36 => ⟨S16384, .f32⟩
  | 37 => ⟨S16384, .f32⟩
  | 38 => ⟨S16384x64, .f32⟩
  | 39 => ⟨S_, .f32⟩
  | 40 => ⟨S16384, .f32⟩
  | 41 => ⟨S16384, .f32⟩
  | 42 => ⟨S16384x64, .f32⟩
  | 43 => ⟨S_, .f32⟩
  | 44 => ⟨S16384, .f32⟩
  | 45 => ⟨S16384, .f32⟩
  | 46 => ⟨S1x16384, .f32⟩
  | 47 => ⟨S1x16384, .f32⟩
  | 48 => ⟨S1x16384, .f32⟩
  | 49 => ⟨S3x16384, .f32⟩
  | 50 => ⟨S_, .i32⟩
  | 51 => ⟨S16384x64, .i32⟩
  | 52 => ⟨S16384x64, .i1⟩
  | 53 => ⟨S16384x64, .f32⟩
  | 54 => ⟨S_, .f32⟩
  | 55 => ⟨S16384, .f32⟩
  | 56 => ⟨S_, .f32⟩
  | 57 => ⟨S16384, .f32⟩
  | 58 => ⟨S16384, .f32⟩
  | 59 => ⟨S16384x64, .f32⟩
  | 60 => ⟨S_, .f32⟩
  | 61 => ⟨S16384, .f32⟩
  | 62 => ⟨S16384, .f32⟩
  | 63 => ⟨S16384x64, .f32⟩
  | 64 => ⟨S_, .f32⟩
  | 65 => ⟨S16384, .f32⟩
  | 66 => ⟨S16384, .f32⟩
  | 67 => ⟨S16384x64, .f32⟩
  | 68 => ⟨S_, .f32⟩
  | 69 => ⟨S16384, .f32⟩
  | 70 => ⟨S16384, .f32⟩
  | 71 => ⟨S1x16384, .f32⟩
  | 72 => ⟨S1x16384, .f32⟩
  | 73 => ⟨S1x16384, .f32⟩
  | 74 => ⟨S3x16384, .f32⟩
  | 75 => ⟨S_, .i32⟩
  | 76 => ⟨S16384x64, .i32⟩
  | 77 => ⟨S16384x64, .i1⟩
  | 78 => ⟨S16384x64, .f32⟩
  | 79 => ⟨S_, .f32⟩
  | 80 => ⟨S16384, .f32⟩
  | 81 => ⟨S_, .f32⟩
  | 82 => ⟨S16384, .f32⟩
  | 83 => ⟨S16384, .f32⟩
  | 84 => ⟨S16384x64, .f32⟩
  | 85 => ⟨S_, .f32⟩
  | 86 => ⟨S16384, .f32⟩
  | 87 => ⟨S16384, .f32⟩
  | 88 => ⟨S16384x64, .f32⟩
  | 89 => ⟨S_, .f32⟩
  | 90 => ⟨S16384, .f32⟩
  | 91 => ⟨S16384, .f32⟩
  | 92 => ⟨S16384x64, .f32⟩
  | 93 => ⟨S_, .f32⟩
  | 94 => ⟨S16384, .f32⟩
  | 95 => ⟨S16384, .f32⟩
  | 96 => ⟨S1x16384, .f32⟩
  | 97 => ⟨S1x16384, .f32⟩
  | 98 => ⟨S1x16384, .f32⟩
  | 99 => ⟨S3x16384, .f32⟩
  | 100 => ⟨S_, .i32⟩
  | 101 => ⟨S16384x64, .i32⟩
  | 102 => ⟨S16384x64, .i1⟩
  | 103 => ⟨S16384x64, .f32⟩
  | 104 => ⟨S_, .f32⟩
  | 105 => ⟨S16384, .f32⟩
  | 106 => ⟨S_, .f32⟩
  | 107 => ⟨S16384, .f32⟩
  | 108 => ⟨S16384, .f32⟩
  | 109 => ⟨S16384x64, .f32⟩
  | 110 => ⟨S_, .f32⟩
  | 111 => ⟨S16384, .f32⟩
  | 112 => ⟨S16384, .f32⟩
  | 113 => ⟨S16384x64, .f32⟩
  | 114 => ⟨S_, .f32⟩
  | 115 => ⟨S16384, .f32⟩
  | 116 => ⟨S16384, .f32⟩
  | 117 => ⟨S16384x64, .f32⟩
  | 118 => ⟨S_, .f32⟩
  | 119 => ⟨S16384, .f32⟩
  | 120 => ⟨S16384, .f32⟩
  | 121 => ⟨S1x16384, .f32⟩
  | 122 => ⟨S1x16384, .f32⟩
  | 123 => ⟨S1x16384, .f32⟩
  | 124 => ⟨S3x16384, .f32⟩
  | 125 => ⟨S_, .i32⟩
  | 126 => ⟨S16384x64, .i32⟩
  | 127 => ⟨S16384x64, .i1⟩
  | _ => ⟨S16384x8x2, .f32⟩

abbrev hbmTy0_2 (i : Nat) : BufTy := match i % 128 with
  | 0 => ⟨S16384x64, .f32⟩
  | 1 => ⟨S_, .f32⟩
  | 2 => ⟨S16384, .f32⟩
  | 3 => ⟨S_, .f32⟩
  | 4 => ⟨S16384, .f32⟩
  | 5 => ⟨S16384, .f32⟩
  | 6 => ⟨S16384x64, .f32⟩
  | 7 => ⟨S_, .f32⟩
  | 8 => ⟨S16384, .f32⟩
  | 9 => ⟨S16384, .f32⟩
  | 10 => ⟨S16384x64, .f32⟩
  | 11 => ⟨S_, .f32⟩
  | 12 => ⟨S16384, .f32⟩
  | 13 => ⟨S16384, .f32⟩
  | 14 => ⟨S16384x64, .f32⟩
  | 15 => ⟨S_, .f32⟩
  | 16 => ⟨S16384, .f32⟩
  | 17 => ⟨S16384, .f32⟩
  | 18 => ⟨S1x16384, .f32⟩
  | 19 => ⟨S1x16384, .f32⟩
  | 20 => ⟨S1x16384, .f32⟩
  | 21 => ⟨S3x16384, .f32⟩
  | 22 => ⟨S1x3x16384, .f32⟩
  | 23 => ⟨S1x3x16384, .f32⟩
  | 24 => ⟨S1x3x16384, .f32⟩
  | 25 => ⟨S1x3x16384, .f32⟩
  | 26 => ⟨S1x3x16384, .f32⟩
  | 27 => ⟨S1x3x16384, .f32⟩
  | 28 => ⟨S1x3x16384, .f32⟩
  | 29 => ⟨S1x3x16384, .f32⟩
  | 30 => ⟨S8x3x16384, .f32⟩
  | 31 => ⟨S16384x8x3, .f32⟩
  | _ => ⟨S16384x8x2, .f32⟩

abbrev hbmTy (i : Nat) : BufTy := match i / 128 with
  | 0 => hbmTy0_0 i
  | 1 => hbmTy0_1 i
  | 2 => hbmTy0_2 i
  | _ => ⟨S16384x8x2, .f32⟩

abbrev bufTy : (tb : Table) → Fin (tcTables nBuf tb) → BufTy
  | .hbm, ⟨i, _⟩ => hbmTy i
  | _, _ => ⟨S16384x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v8 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_cst : Ref sig .tc := ⟨.hbm, 46, rfl⟩
abbrev main_call3_v3 : Ref sig .tc := ⟨.hbm, 47, rfl⟩
abbrev main_call3_v4 : Ref sig .tc := ⟨.hbm, 48, rfl⟩
abbrev main_call3_cst_0 : Ref sig .tc := ⟨.hbm, 49, rfl⟩
abbrev main_call3_v5 : Ref sig .tc := ⟨.hbm, 50, rfl⟩
abbrev main_call3_v6 : Ref sig .tc := ⟨.hbm, 51, rfl⟩
abbrev main_call3_cst_1 : Ref sig .tc := ⟨.hbm, 52, rfl⟩
abbrev main_call3_v7 : Ref sig .tc := ⟨.hbm, 53, rfl⟩
abbrev main_call3_v8 : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_v12 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_cst_4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c : Ref sig .tc := ⟨.hbm, 71, rfl⟩
abbrev main_v38 : Ref sig .tc := ⟨.hbm, 72, rfl⟩
abbrev main_v39 : Ref sig .tc := ⟨.hbm, 73, rfl⟩
abbrev main_c_5 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_6 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_7 : Ref sig .tc := ⟨.hbm, 82, rfl⟩
abbrev main_v46 : Ref sig .tc := ⟨.hbm, 83, rfl⟩
abbrev main_cst_8 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_10 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_11 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_12 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_cst_14 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_15 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_16 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_17 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_18 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_19 : Ref sig .tc := ⟨.hbm, 132, rfl⟩
abbrev main_v84 : Ref sig .tc := ⟨.hbm, 133, rfl⟩
abbrev main_cst_20 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_21 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_22 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_23 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_24 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_25 : Ref sig .tc := ⟨.hbm, 157, rfl⟩
abbrev main_v103 : Ref sig .tc := ⟨.hbm, 158, rfl⟩
abbrev main_cst_26 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_27 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_28 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_cst_29 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_c_30 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_31 : Ref sig .tc := ⟨.hbm, 182, rfl⟩
abbrev main_v122 : Ref sig .tc := ⟨.hbm, 183, rfl⟩
abbrev main_cst_32 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_33 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_cst_34 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_35 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_c_36 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_37 : Ref sig .tc := ⟨.hbm, 207, rfl⟩
abbrev main_v141 : Ref sig .tc := ⟨.hbm, 208, rfl⟩
abbrev main_cst_38 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_39 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_cst_40 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_cst_41 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_c_42 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_43 : Ref sig .tc := ⟨.hbm, 232, rfl⟩
abbrev main_v160 : Ref sig .tc := ⟨.hbm, 233, rfl⟩
abbrev main_cst_44 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_cst_45 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_cst_46 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_cst_47 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_c_48 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_cst_49 : Ref sig .tc := ⟨.hbm, 257, rfl⟩
abbrev main_v179 : Ref sig .tc := ⟨.hbm, 258, rfl⟩
abbrev main_cst_50 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_cst_51 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_cst_52 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_cst_53 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩

abbrev nD : Nat := 1
abbrev τ : Topo := Topo.v7x

variable {F : FTy → Type} [FloatOps F]
-- ==== Proof.Row.lean ====
/- What the problem asks of one row of the batch, over the extended reals: a trajectory `T` of eight points and 64 neighbours'
   trajectories `X`; then the rewritings the kernel's own forms of these quantities need. -/
module

public import Idealize.ShloMosaic.Lib.MatmulPlain
public import Idealize.ShloMosaic.Lib.IdealHost
public import proofs.«01_k».proof.Proof.Gen.KernelIdeal.Skeleton

@[expose] public section

noncomputable section

namespace Cert.Row

open Idealize.ShloMosaic

/-- The small constant added to lengths and to counts. -/
def eps : EReal := Ideal.ofBits .f32 0x38D1B717#32

/-- The full turn. -/
def tau : EReal := Ideal.ofBits .f32 0x40C90FDB#32

/-- The width of one sector, an eighth of the full turn. -/
def oct : EReal := Ideal.ofBits .f32 0x3F490FDB#32

/-- The root of the sum of two squares. -/
def hyp (a b : EReal) : EReal := Ideal.sqrt (a * a + b * b)

/-- The remainder brought to the sign of the full turn: the turn is added when the signs differ and the remainder is not zero. -/
def wrap (r : EReal) : EReal :=
  Scalar.select (IntOp.andi (IntOp.cmpi .ne (Ideal.cmp .olt r 0) (Ideal.cmp .olt tau 0)) (Ideal.cmp .une r 0)) (r + tau) r

section
variable (T : Fin 8 → Fin 2 → EReal) (X : Fin 64 → Fin 8 → Fin 2 → EReal)

/-- A neighbour's way from its first to its last point against the trajectory's own. -/
def speed (n : Fin 64) : EReal :=
  Ideal.div (hyp (X n 7 0 - X n 0 0) (X n 7 1 - X n 0 1) + eps) (hyp (T 7 0 - T 0 0) (T 7 1 - T 0 1) + eps)

/-- The distance of a neighbour's last point from the trajectory's last point. -/
def dist (n : Fin 64) : EReal := hyp (X n 7 0 - T 7 0) (X n 7 1 - T 7 1)

/-- The direction in which a neighbour's last point lies, between zero and the full turn. -/
def dir (n : Fin 64) : EReal := wrap (Ideal.remf (Ideal.atan2 (X n 7 1 - T 7 1) (X n 7 0 - T 7 0)) tau)

/-- Whether a neighbour is there: its coordinates do not sum to zero. -/
def present (n : Fin 64) : BitVec 1 := Ideal.cmp .une (∑ t : Fin 8, ∑ c : Fin 2, X n t c) 0

/-- The sector of a neighbour's direction, minus one for a neighbour that is not there. -/
def sector (n : Fin 64) : BitVec 32 :=
  Scalar.select (present X n) (Ideal.fptosi 32 (Ideal.div (dir T X n) oct)) 4294967295#32

/-- The sum of a quantity over the neighbours in sector `a`. -/
def mass (v : Fin 64 → EReal) (a : Fin 8) : EReal :=
  ∑ n : Fin 64, if sector T X n = BitVec.ofNat 32 a then v n else 0

/-- The mean of a quantity over the neighbours in sector `a`. -/
def mean (v : Fin 64 → EReal) (a : Fin 8) : EReal := Ideal.div (mass T X v a) (mass T X (fun _ => 1) a + eps)

/-- The three means of the result. -/
def means (a : Fin 8) (q : Fin 3) : EReal := mean T X (if q = 0 then speed T X else if q = 1 then dist T X else dir T X) a

end

/-! ### A value put together again from two parts of itself -/

/-- A value recovered from its rounding, the rest, and the rest of the rest, when each rounding is the identity. -/
def join (x : EReal) : EReal := (x + (x - x)) + ((x - x) - (x - x))

/-- A real number is recovered. -/
theorem join_coe (x : ℝ) : join (x : EReal) = x := by
  unfold join
  norm_cast
  simp

/-- The upper infinity is not recovered: the lower one comes out. -/
theorem join_top : join ⊤ = ⊥ := by simp [join]

/-- The lower infinity is recovered. -/
theorem join_bot : join ⊥ = ⊥ := by simp [join]

/-- A squared difference does not see the joining: both infinities square to the upper one. -/
theorem join_sub_sq (x a : EReal) : (join x - a) * (join x - a) = (x - a) * (x - a) := by
  induction x with
  | coe x => rw [join_coe]
  | bot => rw [join_bot]
  | top =>
    rw [join_top]
    induction a with
    | coe a => simp
    | bot => simp
    | top => simp

/-- The angle has the lower infinity as its value where the second coordinate is the lower infinity. -/
theorem atan2_bot_right (y : EReal) : Ideal.atan2 y ⊥ = ⊥ := by
  induction y <;> rfl

/-- The angle has the same value where the second coordinate is the upper infinity. -/
theorem atan2_top_right (y : EReal) : Ideal.atan2 y ⊤ = ⊥ := by
  induction y <;> rfl

/-- The angle has the same value where the first coordinate is the lower infinity. -/
theorem atan2_bot_left (x : EReal) : Ideal.atan2 ⊥ x = ⊥ := by
  induction x <;> rfl

/-- The angle has the same value where the first coordinate is the upper infinity. -/
theorem atan2_top_left (x : EReal) : Ideal.atan2 ⊤ x = ⊥ := by
  induction x <;> rfl

/-- The upper infinity minus anything is infinite. -/
theorem top_sub_cases (a : EReal) : (⊤ : EReal) - a = ⊤ ∨ (⊤ : EReal) - a = ⊥ := by
  induction a with
  | coe a => left; simp
  | bot => left; simp
  | top => right; simp

/-- A difference either does not see the joining, or is infinite with and without it. -/
theorem join_sub_cases (x a : EReal) : join x - a = x - a ∨ (join x - a = ⊥ ∧ (x - a = ⊤ ∨ x - a = ⊥)) := by
  induction x with
  | coe x => left; rw [join_coe]
  | bot => left; rw [join_bot]
  | top =>
    right
    rw [join_top]
    exact ⟨by simp, top_sub_cases a⟩

/-- Nor does the direction: it has the same value at every pair with an infinity in it. -/
theorem join_atan2 (y b x a : EReal) : Ideal.atan2 (join y - b) (join x - a) = Ideal.atan2 (y - b) (x - a) := by
  rcases join_sub_cases x a with hx | ⟨hx, hx'⟩ <;> rcases join_sub_cases y b with hy | ⟨hy, hy'⟩
  · rw [hx, hy]
  · rw [hy, atan2_bot_left]
    rcases hy' with h | h <;> rw [h] <;> simp only [atan2_bot_left, atan2_top_left]
  · rw [hx, atan2_bot_right]
    rcases hx' with h | h <;> rw [h] <;> simp only [atan2_bot_right, atan2_top_right]
  · rw [hx, atan2_bot_right]
    rcases hx' with h | h <;> rw [h] <;> simp only [atan2_bot_right, atan2_top_right]

/-- The distance, with the joining undone. -/
theorem join_hyp (x a y b : EReal) : hyp (join x - a) (join y - b) = hyp (x - a) (y - b) := by
  unfold hyp
  rw [join_sub_sq, join_sub_sq]

/-! ### The masks -/

/-- Two bits differ exactly where their exclusive or is set. -/
theorem xor_eq_ne (a b : BitVec 1) : IntOp.xori a b = IntOp.cmpi .ne a b := by
  revert a b; decide

/-- The integer mask taken as a product and a sum is the choice between the two. -/
theorem int_mask (p : BitVec 1) (s : BitVec 32) :
    IntOp.addi (IntOp.muli s (p.setWidth 32)) (IntOp.muli 4294967295#32 (IntOp.subi 1#32 (p.setWidth 32)))
      = Scalar.select p s 4294967295#32 := by
  rcases (show p = 0#1 ∨ p = 1#1 by revert p; decide) with h | h <;> subst h <;>
    simp [IntOp.addi, IntOp.muli, IntOp.subi, Scalar.select]

/-- A product with a comparison's value as a number is the choice between the factor and zero. -/
theorem float_mask (v : EReal) (s a : BitVec 32) :
    v * (((IntOp.cmpi .eq s a).toNat : ℝ) : EReal) = if s = a then v else 0 := by
  by_cases h : s = a
  · subst h; simp [IntOp.cmpi]
  · rw [if_neg h, show IntOp.cmpi .eq s a = 0#1 by simp [IntOp.cmpi, beq_eq_false_iff_ne.mpr h]]
    simp

/-- The choice on a comparison, as a condition. -/
theorem select_eq (v w : EReal) (s a : BitVec 32) :
    Scalar.select (IntOp.cmpi .eq s a) v w = if s = a then v else w := by
  by_cases h : s = a
  · subst h; simp [IntOp.cmpi, Scalar.select]
  · rw [if_neg h, show IntOp.cmpi .eq s a = 0#1 by simp [IntOp.cmpi, beq_eq_false_iff_ne.mpr h]]
    rfl

/-! ### Sums against a column of zeros and ones -/

/-- A column with a single one picks an entry. -/
theorem sum_pick {N : ℕ} (f s : Fin N → EReal) (k₀ : Fin N) (h₁ : s k₀ = 1) (h₀ : ∀ k, k ≠ k₀ → s k = 0) :
    ∑ k, f k * s k = f k₀ := by
  rw [Finset.sum_eq_single k₀]
  · rw [h₁, mul_one]
  · intro k _ hk; rw [h₀ k hk, mul_zero]
  · intro h; exact absurd (Finset.mem_univ _) h

/-- A column that is one on a single group of `n` consecutive entries, of `m` such groups, sums that group. -/
theorem sum_group {m n : ℕ} (f s : Fin (m * n) → EReal) (p : Fin m)
    (hs : ∀ (i : Fin m) (j : Fin n), s (finProdFinEquiv (i, j)) = if i = p then 1 else 0) :
    ∑ k, f k * s k = ∑ j : Fin n, f (finProdFinEquiv (p, j)) := by
  rw [← Equiv.sum_comp finProdFinEquiv, Fintype.sum_prod_type, Finset.sum_eq_single p]
  · refine Finset.sum_congr rfl fun j _ => ?_
    rw [hs, if_pos rfl, mul_one]
  · intro i _ hi
    refine Finset.sum_eq_zero fun j _ => ?_
    rw [hs, if_neg hi, mul_zero]
  · intro h; exact absurd (Finset.mem_univ _) h

end Cert.Row
-- ==== Proof.Tables.Pick.lean ====
/-
  Two of the three tables the kernel multiplies by, as formulas. The program prints each of them as a
  tree of digits, 128 leaves to a node; `pick` is one such node with the leaves given by a function.
-/
module

public import proofs.«01_k».proof.KernelIdeal

@[expose] public section

namespace Cert.Tables

/-- A node of 128 leaves: leaf `i` is `h i`, and zero past the last. -/
def pick (h : Nat → BitVec 32) (i : Nat) : BitVec 32 := match i with
  | 0 => h 0
  | 1 => h 1
  | 2 => h 2
  | 3 => h 3
  | 4 => h 4
  | 5 => h 5
  | 6 => h 6
  | 7 => h 7
  | 8 => h 8
  | 9 => h 9
  | 10 => h 10
  | 11 => h 11
  | 12 => h 12
  | 13 => h 13
  | 14 => h 14
  | 15 => h 15
  | 16 => h 16
  | 17 => h 17
  | 18 => h 18
  | 19 => h 19
  | 20 => h 20
  | 21 => h 21
  | 22 => h 22
  | 23 => h 23
  | 24 => h 24
  | 25 => h 25
  | 26 => h 26
  | 27 => h 27
  | 28 => h 28
  | 29 => h 29
  | 30 => h 30
  | 31 => h 31
  | 32 => h 32
  | 33 => h 33
  | 34 => h 34
  | 35 => h 35
  | 36 => h 36
  | 37 => h 37
  | 38 => h 38
  | 39 => h 39
  | 40 => h 40
  | 41 => h 41
  | 42 => h 42
  | 43 => h 43
  | 44 => h 44
  | 45 => h 45
  | 46 => h 46
  | 47 => h 47
  | 48 => h 48
  | 49 => h 49
  | 50 => h 50
  | 51 => h 51
  | 52 => h 52
  | 53 => h 53
  | 54 => h 54
  | 55 => h 55
  | 56 => h 56
  | 57 => h 57
  | 58 => h 58
  | 59 => h 59
  | 60 => h 60
  | 61 => h 61
  | 62 => h 62
  | 63 => h 63
  | 64 => h 64
  | 65 => h 65
  | 66 => h 66
  | 67 => h 67
  | 68 => h 68
  | 69 => h 69
  | 70 => h 70
  | 71 => h 71
  | 72 => h 72
  | 73 => h 73
  | 74 => h 74
  | 75 => h 75
  | 76 => h 76
  | 77 => h 77
  | 78 => h 78
  | 79 => h 79
  | 80 => h 80
  | 81 => h 81
  | 82 => h 82
  | 83 => h 83
  | 84 => h 84
  | 85 => h 85
  | 86 => h 86
  | 87 => h 87
  | 88 => h 88
  | 89 => h 89
  | 90 => h 90
  | 91 => h 91
  | 92 => h 92
  | 93 => h 93
  | 94 => h 94
  | 95 => h 95
  | 96 => h 96
  | 97 => h 97
  | 98 => h 98
  | 99 => h 99
  | 100 => h 100
  | 101 => h 101
  | 102 => h 102
  | 103 => h 103
  | 104 => h 104
  | 105 => h 105
  | 106 => h 106
  | 107 => h 107
  | 108 => h 108
  | 109 => h 109
  | 110 => h 110
  | 111 => h 111
  | 112 => h 112
  | 113 => h 113
  | 114 => h 114
  | 115 => h 115
  | 116 => h 116
  | 117 => h 117
  | 118 => h 118
  | 119 => h 119
  | 120 => h 120
  | 121 => h 121
  | 122 => h 122
  | 123 => h 123
  | 124 => h 124
  | 125 => h 125
  | 126 => h 126
  | 127 => h 127
  | _ => 0#32

set_option maxRecDepth 10000 in
/-- Leaf `i` of a node is the function's value there. -/
theorem pick_eq (h : Nat → BitVec 32) (i : Nat) (hi : i < 128) : pick h i = h i := by
  unfold pick
  split
  all_goals first
    | rfl
    | simp only [imp_false] at *; omega

/-- Entry `i` of the 1024×128 selection table: columns 0–63 pick entry `16 n + 14`, columns 64–127 entry
    `16 n + 15`. -/
def last (i : Nat) : BitVec 32 :=
  bif Nat.blt (i % 128) 64 then
    bif Nat.beq (i / 128) (16 * (i % 128) + 14) then 0x3F800000#32 else 0#32
  else bif Nat.beq (i / 128) (16 * (i % 128 - 64) + 15) then 0x3F800000#32 else 0#32

/-- Entry `i` of the 2048×32 reduction table: row `(4 a + q) 64 + j` feeds column `8 q + a`. -/
def group (i : Nat) : BitVec 32 :=
  bif Nat.beq (i % 32) (i / 32 / 64 % 4 * 8 + i / 32 / 256) then 0x3F800000#32 else 0#32

end Cert.Tables

end
-- ==== Proof.Tables.Last1.lean ====
/- The second selection table's entries, first half. -/
module

public import proofs.«01_k».proof.Proof.Tables.Pick

@[expose] public section

namespace Cert.Tables

open Cert.KernelIdeal

set_option maxRecDepth 100000
set_option maxHeartbeats 4000000

/-- Entries 0 to 16383 of the table follow the formula. -/
theorem lit0_0 (i : Nat) : lit0t1_0 i =
    pick (fun b => pick (fun r => last (16384 * 0 + 128 * b + r)) (i % 128)) (i / 128 % 128) := by
  exact rfl

/-- Entries 16384 to 32767 of the table follow the formula. -/
theorem lit0_1 (i : Nat) : lit0t1_1 i =
    pick (fun b => pick (fun r => last (16384 * 1 + 128 * b + r)) (i % 128)) (i / 128 % 128) := by
  exact rfl

/-- Entries 32768 to 49151 of the table follow the formula. -/
theorem lit0_2 (i : Nat) : lit0t1_2 i =
    pick (fun b => pick (fun r => last (16384 * 2 + 128 * b + r)) (i % 128)) (i / 128 % 128) := by
  exact rfl

/-- Entries 49152 to 65535 of the table follow the formula. -/
theorem lit0_3 (i : Nat) : lit0t1_3 i =
    pick (fun b => pick (fun r => last (16384 * 3 + 128 * b + r)) (i % 128)) (i / 128 % 128) := by
  exact rfl

end Cert.Tables

end
-- ==== Proof.Tables.Last2.lean ====
/- The second selection table's entries, second half. -/
module

public import proofs.«01_k».proof.Proof.Tables.Pick

@[expose] public section

namespace Cert.Tables

open Cert.KernelIdeal

set_option maxRecDepth 100000
set_option maxHeartbeats 4000000

/-- Entries 65536 to 81919 of the table follow the formula. -/
theorem lit0_4 (i : Nat) : lit0t1_4 i =
    pick (fun b => pick (fun r => last (16384 * 4 + 128 * b + r)) (i % 128)) (i / 128 % 128) := by
  exact rfl

/-- Entries 81920 to 98303 of the table follow the formula. -/
theorem lit0_5 (i : Nat) : lit0t1_5 i =
    pick (fun b => pick (fun r => last (16384 * 5 + 128 * b + r)) (i % 128)) (i / 128 % 128) := by
  exact rfl

/-- Entries 98304 to 114687 of the table follow the formula. -/
theorem lit0_6 (i : Nat) : lit0t1_6 i =
    pick (fun b => pick (fun r => last (16384 * 6 + 128 * b + r)) (i % 128)) (i / 128 % 128) := by
  exact rfl

/-- Entries 114688 to 131071 of the table follow the formula. -/
theorem lit0_7 (i : Nat) : lit0t1_7 i =
    pick (fun b => pick (fun r => last (16384 * 7 + 128 * b + r)) (i % 128)) (i / 128 % 128) := by
  exact rfl

end Cert.Tables

end
-- ==== Proof.Tables.Group.lean ====
/- The reduction table's entries. -/
module

public import proofs.«01_k».proof.Proof.Tables.Pick

@[expose] public section

namespace Cert.Tables

open Cert.KernelIdeal

set_option maxRecDepth 100000
set_option maxHeartbeats 4000000

/-- Entries 0 to 16383 of the table follow the formula. -/
theorem lit1_0 (i : Nat) : lit1t1_0 i =
    pick (fun b => pick (fun r => group (16384 * 0 + 128 * b + r)) (i % 128)) (i / 128 % 128) := by
  exact rfl

/-- Entries 16384 to 32767 of the table follow the formula. -/
theorem lit1_1 (i : Nat) : lit1t1_1 i =
    pick (fun b => pick (fun r => group (16384 * 1 + 128 * b + r)) (i % 128)) (i / 128 % 128) := by
  exact rfl

/-- Entries 32768 to 49151 of the table follow the formula. -/
theorem lit1_2 (i : Nat) : lit1t1_2 i =
    pick (fun b => pick (fun r => group (16384 * 2 + 128 * b + r)) (i % 128)) (i / 128 % 128) := by
  exact rfl

/-- Entries 49152 to 65535 of the table follow the formula. -/
theorem lit1_3 (i : Nat) : lit1t1_3 i =
    pick (fun b => pick (fun r => group (16384 * 3 + 128 * b + r)) (i % 128)) (i / 128 % 128) := by
  exact rfl

end Cert.Tables

end
-- ==== Proof.Tables.lean ====
/- Every entry of the two printed tables, as the formulas of Pick give it. -/
module

public import proofs.«01_k».proof.Proof.Tables.Last1
public import proofs.«01_k».proof.Proof.Tables.Last2
public import proofs.«01_k».proof.Proof.Tables.Group

@[expose] public section

namespace Cert.Tables

open Cert.KernelIdeal

/-- A node of nodes over a function of the flat position is the function at the flat position. -/
theorem pick_pick (f : Nat → BitVec 32) (q i : Nat) (hq : i / 16384 = q) :
    pick (fun b => pick (fun r => f (16384 * q + 128 * b + r)) (i % 128)) (i / 128 % 128) = f i := by
  rw [pick_eq _ _ (by omega), pick_eq _ _ (by omega)]
  congr 1
  omega

/-- The second selection table, entry by entry. -/
theorem lit0_eq (i : Fin 131072) : lit0 i = last i := by
  obtain ⟨i, hi⟩ := i
  show lit0t i = last i
  have hq : i / 16384 < 8 := by omega
  unfold lit0t
  split
  · rename_i h; rw [lit0_0]; exact pick_pick last 0 i h
  · rename_i h; rw [lit0_1]; exact pick_pick last 1 i h
  · rename_i h; rw [lit0_2]; exact pick_pick last 2 i h
  · rename_i h; rw [lit0_3]; exact pick_pick last 3 i h
  · rename_i h; rw [lit0_4]; exact pick_pick last 4 i h
  · rename_i h; rw [lit0_5]; exact pick_pick last 5 i h
  · rename_i h; rw [lit0_6]; exact pick_pick last 6 i h
  · rename_i h; rw [lit0_7]; exact pick_pick last 7 i h
  · simp only [imp_false] at *; omega

/-- The reduction table, entry by entry. -/
theorem lit1_eq (i : Fin 65536) : lit1 i = group i := by
  obtain ⟨i, hi⟩ := i
  show lit1t i = group i
  have hq : i / 16384 < 4 := by omega
  unfold lit1t
  split
  · rename_i h; rw [lit1_0]; exact pick_pick group 0 i h
  · rename_i h; rw [lit1_1]; exact pick_pick group 1 i h
  · rename_i h; rw [lit1_2]; exact pick_pick group 2 i h
  · rename_i h; rw [lit1_3]; exact pick_pick group 3 i h
  · simp only [imp_false] at *; omega

end Cert.Tables

end
-- ==== Proof.Block.lean ====
/- What one block of the kernel computes, row by row: the selections are sums against the tables' columns, and the quantities
   of the row are those of Row. -/
module

public import Idealize.ShloMosaic.Lib.Pipeline.Value
public import proofs.«01_k».proof.Proof.Row
public import proofs.«01_k».proof.Proof.Tables

@[expose] public section

noncomputable section

namespace Cert.Block

open Idealize.ShloMosaic Idealize.ShloMosaic.ValueIdx Cert.KernelIdeal Cert.KernelIdeal.Gen Cert.Row

/-! ### The operations on matrices, read at an entry -/

/-- A product of a matrix with a matrix over a zero accumulator, at an entry. -/
theorem mm_apply {M K N : ℕ} (lhs : FVec Ideal ⟨2, ![M, K]⟩ .f32) (rhs : FVec Ideal ⟨2, ![K, N]⟩ .f32) (r : Fin M) (c : Fin N) :
    matmul (DotDims.plain M K N) none lhs rhs (constant ⟨2, ![M, N]⟩ .f32 0x00000000#32) (ix2 r c)
      = ∑ k : Fin K, lhs (ix2 r k) * rhs (ix2 k c) := by
  refine (Ideal.matmul_plain_apply none lhs rhs _ r c).trans ?_
  rw [show constant (F := Ideal) ⟨2, ![M, N]⟩ .f32 0x00000000#32 (ix2 r c) = (0 : EReal) from Ideal.ofBits_zero_f32, zero_add]

/-- Columns cut out of a matrix, at an entry. -/
theorem cols_apply {α : Type} {R M K o : ℕ} (x : (⟨2, ![R, M]⟩ : Shape).Idx → α)
    (h : (⟨2, ![R, M]⟩ : Shape).Slices ![0, o] ⟨2, ![R, K]⟩) (r : Fin R) (c : Fin K) (hc : o + c.val < M) :
    extractStridedSlice ⟨2, ![R, K]⟩ ![0, o] x h (ix2 r c) = x (ix2 r ⟨o + c.val, hc⟩) :=
  extractStridedSlice_apply _ _ _ _ _ fun a => by
    match a with
    | ⟨0, _⟩ => exact (Nat.zero_add _).symm
    | ⟨1, _⟩ => rfl

/-- A column repeated along the rows, at an entry. -/
theorem spread_apply {α : Type} (x : S512x1.Idx → α) (h : S512x1.Broadcasts S512x64) (r : Fin 512) (c : Fin 64) :
    broadcastTo S512x64 x h (ix2 r c) = x (ix2 r 0) :=
  broadcastTo_apply _ _ _ _ fun a => by
    match a with
    | ⟨0, _⟩ => rfl
    | ⟨1, _⟩ => rfl

/-- A matrix repeated to its own size, at an entry. -/
theorem same_apply {α : Type} (x : S512x64.Idx → α) (h : S512x64.Broadcasts S512x64) (r : Fin 512) (c : Fin 64) :
    broadcastTo S512x64 x h (ix2 r c) = x (ix2 r c) :=
  broadcastTo_apply _ _ _ _ fun a => by
    match a with
    | ⟨0, _⟩ => rfl
    | ⟨1, _⟩ => rfl

/-! ### The tables' columns -/

/-- The two bit patterns of the tables are one and zero. -/
theorem bit_value (p : Bool) : Ideal.ofBits .f32 (bif p then 0x3F800000#32 else 0#32) = if p = true then 1 else 0 := by
  cases p
  · exact Ideal.ofBits_zero_f32
  · exact Ideal.ofBits_one_f32

/-- The second table's column `n` has its single one where neighbour `n`'s last point has its first coordinate. -/
theorem last_x (k : ℕ) (n : Fin 64) :
    Ideal.ofBits .f32 (Tables.last (128 * k + n.val)) = if k = 16 * n.val + 14 then 1 else 0 := by
  have h1 : (128 * k + n.val) % 128 = n.val := by omega
  have h2 : (128 * k + n.val) / 128 = k := by omega
  unfold Tables.last
  rw [h1, h2, show Nat.blt n.val 64 = true by simp, cond_true, bit_value]
  simp only [Nat.beq_eq]

/-- The second table's column `64 + n` has its single one where neighbour `n`'s last point has its second coordinate. -/
theorem last_y (k : ℕ) (n : Fin 64) :
    Ideal.ofBits .f32 (Tables.last (128 * k + (64 + n.val))) = if k = 16 * n.val + 15 then 1 else 0 := by
  have h1 : (128 * k + (64 + n.val)) % 128 = 64 + n.val := by omega
  have h2 : (128 * k + (64 + n.val)) / 128 = k := by omega
  have h3 : Nat.blt (64 + n.val) 64 = false := by rw [Bool.eq_false_iff]; simp
  unfold Tables.last
  rw [h1, h2, h3, cond_false, bit_value, show 64 + n.val - 64 = n.val by omega]
  simp only [Nat.beq_eq]

/-- The third table's column for quantity `q` and sector `a` is one on that pair's group of 64 positions. -/
theorem group_col (p : Fin 32) (j : Fin 64) (q : Fin 4) (a : Fin 8) :
    Ideal.ofBits .f32 (Tables.group (32 * (j.val + 64 * p.val) + (8 * q.val + a.val)))
      = if p.val = 4 * a.val + q.val then 1 else 0 := by
  have h1 : (32 * (j.val + 64 * p.val) + (8 * q.val + a.val)) % 32 = 8 * q.val + a.val := by omega
  have h2 : (32 * (j.val + 64 * p.val) + (8 * q.val + a.val)) / 32 = j.val + 64 * p.val := by omega
  have h3 : (j.val + 64 * p.val) / 64 = p.val := by omega
  have h4 : (j.val + 64 * p.val) / 256 = p.val / 4 := by omega
  unfold Tables.group
  rw [h1, h2, h3, h4, bit_value]
  simp only [Nat.beq_eq]
  refine if_congr ?_ rfl rfl
  omega

/-! ### The block -/

section
variable (x0 : Vec Ideal S512x16 .f32) (x1 : Vec Ideal S512x1024 .f32) (x2 : Vec Ideal S1024x192 .f32)
  (x3 : Vec Ideal S1024x128 .f32) (x4 : Vec Ideal S2048x32 .f32)

/-- The trajectory of row `r` of the block. -/
def traj (r : Fin 512) (t : Fin 8) (c : Fin 2) : EReal := x0 (ix2 r ⟨2 * t.val + c.val, by omega⟩)

/-- The neighbours' trajectories of row `r` of the block. -/
def neigh (r : Fin 512) (n : Fin 64) (t : Fin 8) (c : Fin 2) : EReal :=
  x1 (ix2 r ⟨16 * n.val + (2 * t.val + c.val), by omega⟩)

/-- The first table's column `n` is one at the first coordinate of neighbour `n`'s first point, its column `64 + n` at the second
    coordinate, its column `128 + n` at all of the neighbour's sixteen coordinates; every other entry is zero. -/
def IsFirst : Prop := ∀ (k : Fin 1024) (n : Fin 64),
  x2 (ix2 k ⟨64 * 0 + n.val, by omega⟩) = (if k.val = 16 * n.val then 1 else 0)
  ∧ x2 (ix2 k ⟨64 * 1 + n.val, by omega⟩) = (if k.val = 16 * n.val + 1 then 1 else 0)
  ∧ x2 (ix2 k ⟨64 * 2 + n.val, by omega⟩) = (if k.val / 16 = n.val then 1 else 0)
/-- The second table holds its formula. -/
def IsLast : Prop := ∀ (k : Fin 1024) (c : Fin 128), x3 (ix2 k c) = Ideal.ofBits .f32 (Tables.last (128 * k.val + c.val))
/-- The third table holds its formula. -/
def IsGroup : Prop := ∀ (k : Fin 2048) (c : Fin 32), x4 (ix2 k c) = Ideal.ofBits .f32 (Tables.group (32 * k.val + c.val))

/-- The neighbours' block is read as it is. -/
theorem pay6_eq : k0_pay6 x1 = x1 := shapeCast_self _ _

/-- The trajectories' block is read as it is. -/
theorem pay7_eq : k0_pay7 x0 = x0 := shapeCast_self _ _

/-- The product of the neighbours' block with the first table, at an entry. -/
theorem pay8_apply (r : Fin 512) (c : Fin 192) :
    k0_pay8 x1 x2 (ix2 r c) = ∑ k : Fin 1024, x1 (ix2 r k) * x2 (ix2 k c) := by
  unfold k0_pay8
  rw [pay6_eq, shapeCast_self]
  exact mm_apply x1 x2 r c

/-- A sum against a column that is one at the single position `p`. -/
theorem pick_at {N : ℕ} (f s : Fin N → EReal) (p : ℕ) (hp : p < N) (hs : ∀ k : Fin N, s k = if k.val = p then 1 else 0) :
    ∑ k, f k * s k = f ⟨p, hp⟩ := by
  refine sum_pick f s ⟨p, hp⟩ ?_ fun k hk => ?_
  · rw [hs, if_pos rfl]
  · rw [hs, if_neg fun h => hk (Fin.ext h)]

variable {x2 x3 x4}

/-- That product's first 64 columns are the first coordinates of the neighbours' first points. -/
theorem first_x_apply (h2 : IsFirst x2) (r : Fin 512) (n : Fin 64) (h : 0 + n.val < 192) :
    k0_pay8 x1 x2 (ix2 r ⟨0 + n.val, h⟩) = neigh x1 r n 0 0 := by
  rw [pay8_apply]
  exact pick_at (fun k => x1 (ix2 r k)) (fun k => x2 (ix2 k ⟨0 + n.val, h⟩)) (16 * n.val) (by omega) fun k => (h2 k n).1

/-- Its next 64 columns are the second coordinates of the neighbours' first points. -/
theorem first_y_apply (h2 : IsFirst x2) (r : Fin 512) (n : Fin 64) (h : 64 + n.val < 192) :
    k0_pay8 x1 x2 (ix2 r ⟨64 + n.val, h⟩) = neigh x1 r n 0 1 := by
  rw [pay8_apply]
  exact pick_at (fun k => x1 (ix2 r k)) (fun k => x2 (ix2 k ⟨64 + n.val, h⟩)) (16 * n.val + 1) (by omega) fun k => (h2 k n).2.1

/-- The sum over a neighbour's sixteen coordinates, as a sum over points and axes. -/
theorem sum_coords (f : Fin 16 → EReal) : ∑ j, f j = ∑ t : Fin 8, ∑ c : Fin 2, f ⟨2 * t.val + c.val, by omega⟩ := by
  rw [← Equiv.sum_comp (finProdFinEquiv (m := 8) (n := 2)), Fintype.sum_prod_type]
  refine Finset.sum_congr rfl fun t _ => Finset.sum_congr rfl fun c _ => congrArg f (Fin.ext ?_)
  show c.val + 2 * t.val = 2 * t.val + c.val
  omega

/-- Its last 64 columns are the sums of the neighbours' coordinates. -/
theorem pay9_apply (h2 : IsFirst x2) (r : Fin 512) (n : Fin 64) :
    k0_pay9 x1 x2 (ix2 r n) = ∑ t : Fin 8, ∑ c : Fin 2, neigh x1 r n t c := by
  unfold k0_pay9
  refine (cols_apply _ _ r n (by omega)).trans ?_
  rw [pay8_apply]
  refine (sum_group (m := 64) (n := 16) (fun k => x1 (ix2 r k)) (fun k => x2 (ix2 k ⟨128 + n.val, by omega⟩)) n fun i j => ?_).trans ?_
  · refine ((h2 _ n).2.2).trans ?_
    refine if_congr ?_ rfl rfl
    show (j.val + 16 * i.val) / 16 = n.val ↔ i = n
    rw [Fin.ext_iff]
    omega
  · refine (sum_coords _).trans ?_
    refine Finset.sum_congr rfl fun t _ => Finset.sum_congr rfl fun c _ => congrArg x1 (congrArg (ix2 r) (Fin.ext ?_))
    show 2 * t.val + c.val + 16 * n.val = 16 * n.val + (2 * t.val + c.val)
    omega

/-- The three products of the split operand against a column with a single one put the picked entry together again. -/
theorem pay10_pick (r : Fin 512) (c : Fin 128) (p : ℕ) (hp : p < 1024)
    (hs : ∀ k : Fin 1024, x3 (ix2 k c) = if k.val = p then 1 else 0) :
    k0_pay10 x1 x3 (ix2 r c) = join (x1 (ix2 r ⟨p, hp⟩)) := by
  unfold k0_pay10
  rw [pay6_eq]
  have e (v : FVec Ideal S512x1024 .f32) :
      matmul dot_S512x1024_S1024x128_S512x128_1_0_0_1_n_n none v x3 (constant S512x128 .f32 0x00000000#32) (ix2 r c)
        = v (ix2 r ⟨p, hp⟩) :=
    (mm_apply v x3 r c).trans (pick_at (fun k => v (ix2 r k)) (fun k => x3 (ix2 k c)) p hp hs)
  exact congrArg₂ (· + ·) (congrArg₂ (· + ·) (e _) (e _)) (e _)

/-- The first coordinates of the neighbours' last points, put together again from the split operand. -/
theorem pay11_apply (h3 : IsLast x3) (r : Fin 512) (n : Fin 64) : k0_pay11 x1 x3 (ix2 r n) = join (neigh x1 r n 7 0) := by
  unfold k0_pay11
  refine (cols_apply _ _ r n (by omega)).trans ?_
  exact pay10_pick x1 r _ (16 * n.val + 14) (by omega) fun k => by rw [h3, ← last_x]; simp only [Nat.zero_add]

/-- The second coordinates of the neighbours' last points, put together again from the split operand. -/
theorem pay12_apply (h3 : IsLast x3) (r : Fin 512) (n : Fin 64) : k0_pay12 x1 x3 (ix2 r n) = join (neigh x1 r n 7 1) := by
  unfold k0_pay12
  refine (cols_apply _ _ r n (by omega)).trans ?_
  exact pay10_pick x1 r _ (16 * n.val + 15) (by omega) fun k => by rw [h3, ← last_y]

/-- The first coordinate of the trajectory's last point. -/
theorem pay13_apply (r : Fin 512) : k0_pay13 x0 (ix2 r 0) = traj x0 r 7 0 := by
  unfold k0_pay13
  rw [pay7_eq]
  exact cols_apply _ _ r 0 (by decide)

/-- The second coordinate of the trajectory's last point. -/
theorem pay14_apply (r : Fin 512) : k0_pay14 x0 (ix2 r 0) = traj x0 r 7 1 := by
  unfold k0_pay14
  rw [pay7_eq]
  exact cols_apply _ _ r 0 (by decide)

/-- The lengths of the neighbours' ways, with the small constant added. -/
theorem pay15_apply (h2 : IsFirst x2) (h3 : IsLast x3) (r : Fin 512) (n : Fin 64) :
    k0_pay15 x1 x2 x3 (ix2 r n)
      = hyp (neigh x1 r n 7 0 - neigh x1 r n 0 0) (neigh x1 r n 7 1 - neigh x1 r n 0 1) + eps := by
  have f0 : extractStridedSlice S512x64 ![0, 0] (k0_pay8 x1 x2) slices_S512x192_o0_0_S512x64 (ix2 r n) = neigh x1 r n 0 0 :=
    (cols_apply _ _ r n (by omega)).trans (first_x_apply x1 h2 r n _)
  have f1 : extractStridedSlice S512x64 ![0, 64] (k0_pay8 x1 x2) slices_S512x192_o0_64_S512x64 (ix2 r n) = neigh x1 r n 0 1 :=
    (cols_apply _ _ r n (by omega)).trans (first_y_apply x1 h2 r n _)
  have l0 := pay11_apply x1 h3 r n
  have l1 := pay12_apply x1 h3 r n
  unfold k0_pay15
  generalize k0_pay11 x1 x3 = a0 at *
  generalize k0_pay12 x1 x3 = a1 at *
  generalize extractStridedSlice S512x64 ![0, 0] (k0_pay8 x1 x2) slices_S512x192_o0_0_S512x64 = c0 at *
  generalize extractStridedSlice S512x64 ![0, 64] (k0_pay8 x1 x2) slices_S512x192_o0_64_S512x64 = c1 at *
  rw [← join_hyp, ← l0, ← l1, ← f0, ← f1]
  rfl

/-- The length of the trajectory's way, with the small constant added, repeated along the neighbours. -/
theorem pay16_apply (r : Fin 512) (n : Fin 64) :
    k0_pay16 x0 (ix2 r n) = hyp (traj x0 r 7 0 - traj x0 r 0 0) (traj x0 r 7 1 - traj x0 r 0 1) + eps := by
  have t0 : extractStridedSlice S512x1 ![0, 0] (k0_pay7 x0) slices_S512x16_o0_0_S512x1 (ix2 r 0) = traj x0 r 0 0 := by
    rw [pay7_eq]; exact cols_apply _ _ r 0 (by decide)
  have t1 : extractStridedSlice S512x1 ![0, 1] (k0_pay7 x0) slices_S512x16_o0_1_S512x1 (ix2 r 0) = traj x0 r 0 1 := by
    rw [pay7_eq]; exact cols_apply _ _ r 0 (by decide)
  have m0 := pay13_apply x0 r
  have m1 := pay14_apply x0 r
  unfold k0_pay16
  generalize k0_pay13 x0 = b0 at *
  generalize k0_pay14 x0 = b1 at *
  generalize extractStridedSlice S512x1 ![0, 0] (k0_pay7 x0) slices_S512x16_o0_0_S512x1 = d0 at *
  generalize extractStridedSlice S512x1 ![0, 1] (k0_pay7 x0) slices_S512x16_o0_1_S512x1 = d1 at *
  rw [← t0, ← t1, ← m0, ← m1]
  exact spread_apply _ _ r n

/-- The speeds. -/
theorem speed_apply (h2 : IsFirst x2) (h3 : IsLast x3) (r : Fin 512) (n : Fin 64) :
    Ideal.div (k0_pay15 x1 x2 x3 (ix2 r n)) (k0_pay16 x0 (ix2 r n)) = speed (traj x0 r) (neigh x1 r) n := by
  rw [pay15_apply x1 h2 h3, pay16_apply]
  rfl

/-- A neighbour's last point minus the trajectory's, first coordinate. -/
theorem pay17_apply (h3 : IsLast x3) (r : Fin 512) (n : Fin 64) :
    k0_pay17 (k0_pay11 x1 x3) (k0_pay13 x0) (ix2 r n) = join (neigh x1 r n 7 0) - traj x0 r 7 0 := by
  unfold k0_pay17
  exact congrArg₂ (· - ·) (pay11_apply x1 h3 r n) ((spread_apply _ _ r n).trans (pay13_apply x0 r))

/-- A neighbour's last point minus the trajectory's, second coordinate. -/
theorem pay18_apply (h3 : IsLast x3) (r : Fin 512) (n : Fin 64) :
    k0_pay18 (k0_pay12 x1 x3) (k0_pay14 x0) (ix2 r n) = join (neigh x1 r n 7 1) - traj x0 r 7 1 := by
  unfold k0_pay18
  exact congrArg₂ (· - ·) (pay12_apply x1 h3 r n) ((spread_apply _ _ r n).trans (pay14_apply x0 r))

/-- The remainder brought to the turn's sign, as the kernel writes it. -/
theorem wrap_xor (v : EReal) :
    Scalar.select (IntOp.andi (IntOp.xori (Ideal.cmp .olt v (Ideal.ofBits .f32 0x00000000#32))
        (Ideal.cmp .olt tau (Ideal.ofBits .f32 0x00000000#32))) (Ideal.cmp .one v (Ideal.ofBits .f32 0x00000000#32))) (v + tau) v
      = wrap v := by
  rw [xor_eq_ne, Ideal.ofBits_zero_f32]
  rfl

/-- The directions. -/
theorem pay19_apply (h3 : IsLast x3) (r : Fin 512) (n : Fin 64) :
    k0_pay19 (k0_pay11 x1 x3) (k0_pay12 x1 x3) (k0_pay13 x0) (k0_pay14 x0) (ix2 r n) = dir (traj x0 r) (neigh x1 r) n := by
  have e : Ideal.atan2 (k0_pay18 (k0_pay12 x1 x3) (k0_pay14 x0) (ix2 r n)) (k0_pay17 (k0_pay11 x1 x3) (k0_pay13 x0) (ix2 r n))
      = Ideal.atan2 (neigh x1 r n 7 1 - traj x0 r 7 1) (neigh x1 r n 7 0 - traj x0 r 7 0) := by
    rw [pay17_apply x0 x1 h3, pay18_apply x0 x1 h3, join_atan2]
  unfold dir
  rw [← e, ← wrap_xor]
  rfl

/-- The sectors. -/
theorem sector_apply (h2 : IsFirst x2) (h3 : IsLast x3) (r : Fin 512) (n : Fin 64) :
    Scalar.select (Ideal.cmp .one (k0_pay9 x1 x2 (ix2 r n)) (Ideal.ofBits .f32 0x00000000#32))
        (Ideal.fptosi 32 (Ideal.div (k0_pay19 (k0_pay11 x1 x3) (k0_pay12 x1 x3) (k0_pay13 x0) (k0_pay14 x0) (ix2 r n)) oct))
        4294967295#32
      = sector (traj x0 r) (neigh x1 r) n := by
  rw [pay9_apply x1 h2, pay19_apply x0 x1 h3, Ideal.ofBits_zero_f32]
  rfl

end

end Cert.Block
-- ==== Proof.Sums.lean ====
/- The sums over sectors of one block: the quantities side by side, each kept only where its neighbour's sector is the wanted one,
   against the table of groups. -/
module

public import proofs.«01_k».proof.Proof.Block

@[expose] public section

noncomputable section

namespace Cert.Block

open Idealize.ShloMosaic Idealize.ShloMosaic.ValueIdx Cert.KernelIdeal Cert.KernelIdeal.Gen Cert.Row

/-- Four blocks of columns side by side, at an entry. -/
theorem cat4_apply {α : Type} (f : Fin 4 → S512x64.Idx → α)
    (h : Shape.Concatenates [S512x64, S512x64, S512x64, S512x64] S512x256 1) (r : Fin 512) (q : Fin 4) (j : Fin 64) :
    concatenate S512x256 1 [⟨S512x64, f 0⟩, ⟨S512x64, f 1⟩, ⟨S512x64, f 2⟩, ⟨S512x64, f 3⟩] h
      (ix2 r ⟨64 * q.val + j.val, by omega⟩) = f q (ix2 r j) := by
  refine concatenate_ofFn_apply (t := S512x256) (s₁ := S512x64) 1 f h rfl 64 rfl _ q ?_ (ix2 r j) ?_ ?_
  · show (64 * q.val + j.val) / 64 = q.val
    omega
  · show j.val = (64 * q.val + j.val) % 64
    omega
  · intro b hb
    match b with
    | ⟨0, _⟩ => rfl
    | ⟨1, _⟩ => exact absurd rfl hb

/-- Eight blocks of columns side by side, at an entry. -/
theorem cat8_apply {α : Type} (f : Fin 8 → S512x256.Idx → α)
    (h : Shape.Concatenates [S512x256, S512x256, S512x256, S512x256, S512x256, S512x256, S512x256, S512x256] S512x2048 1)
    (r : Fin 512) (a : Fin 8) (j : Fin 256) :
    concatenate S512x2048 1 [⟨S512x256, f 0⟩, ⟨S512x256, f 1⟩, ⟨S512x256, f 2⟩, ⟨S512x256, f 3⟩, ⟨S512x256, f 4⟩, ⟨S512x256, f 5⟩,
      ⟨S512x256, f 6⟩, ⟨S512x256, f 7⟩] h (ix2 r ⟨256 * a.val + j.val, by omega⟩) = f a (ix2 r j) := by
  refine concatenate_ofFn_apply (t := S512x2048) (s₁ := S512x256) 1 f h rfl 256 rfl _ a ?_ (ix2 r j) ?_ ?_
  · show (256 * a.val + j.val) / 256 = a.val
    omega
  · show j.val = (256 * a.val + j.val) % 256
    omega
  · intro b hb
    match b with
    | ⟨0, _⟩ => rfl
    | ⟨1, _⟩ => exact absurd rfl hb

/-- The four quantities that are summed: the count, the speed, the distance, the direction. -/
def amount (T : Fin 8 → Fin 2 → EReal) (X : Fin 64 → Fin 8 → Fin 2 → EReal) (q : Fin 4) : Fin 64 → EReal :=
  ![fun _ => 1, speed T X, dist T X, dir T X] q

section
variable (x0 : Vec Ideal S512x16 .f32) (x1 : Vec Ideal S512x1024 .f32) {x2 : Vec Ideal S1024x192 .f32}
  {x3 : Vec Ideal S1024x128 .f32} {x4 : Vec Ideal S2048x32 .f32}

/-- The four quantities side by side. -/
theorem pay20_apply (h2 : IsFirst x2) (h3 : IsLast x3) (r : Fin 512) (q : Fin 4) (j : Fin 64) :
    k0_pay20 (k0_pay11 x1 x3) (k0_pay12 x1 x3) (k0_pay13 x0) (k0_pay14 x0) (k0_pay15 x1 x2 x3) (k0_pay16 x0)
        (ix2 r ⟨64 * q.val + j.val, by omega⟩)
      = amount (traj x0 r) (neigh x1 r) q j := by
  unfold k0_pay20
  refine (cat4_apply ![_, _, _, _] _ r q j).trans ?_
  match q with
  | 0 => exact Ideal.ofBits_one_f32
  | 1 => exact speed_apply x0 x1 h2 h3 r j
  | 2 =>
    show hyp (k0_pay17 (k0_pay11 x1 x3) (k0_pay13 x0) (ix2 r j)) (k0_pay18 (k0_pay12 x1 x3) (k0_pay14 x0) (ix2 r j)) = _
    rw [pay17_apply x0 x1 h3, pay18_apply x0 x1 h3, join_hyp]
    rfl
  | 3 => exact pay19_apply x0 x1 h3 r j

/-- The sectors, four times side by side. -/
theorem pay21_apply (h2 : IsFirst x2) (h3 : IsLast x3) (r : Fin 512) (q : Fin 4) (j : Fin 64) :
    k0_pay21 (k0_pay9 x1 x2) (k0_pay11 x1 x3) (k0_pay12 x1 x3) (k0_pay13 x0) (k0_pay14 x0)
        (ix2 r ⟨64 * q.val + j.val, by omega⟩)
      = sector (traj x0 r) (neigh x1 r) j := by
  unfold k0_pay21
  refine (cat4_apply (fun _ => _) _ r q j).trans ?_
  exact sector_apply x0 x1 h2 h3 r j

/-- The sums over sectors: the product with the table of groups, at an entry. -/
theorem pay1_apply (h4 : IsGroup x4) (vals : FVec Ideal S512x256 .f32) (ang : IVec S512x256 32) (r : Fin 512) (q : Fin 4) (a : Fin 8) :
    k0_pay1 vals ang (k0_pay22 (F := Ideal)) (select (cmpi .eq ang (broadcast S512x256 0#32)) vals (k0_pay22 (F := Ideal)))
        (select (cmpi .eq ang (broadcast S512x256 1#32)) vals (k0_pay22 (F := Ideal)))
        (select (cmpi .eq ang (broadcast S512x256 2#32)) vals (k0_pay22 (F := Ideal))) x4
        (ix2 r ⟨8 * q.val + a.val, by omega⟩)
      = ∑ j : Fin 64, if ang (ix2 r ⟨64 * q.val + j.val, by omega⟩) = BitVec.ofNat 32 a.val
          then vals (ix2 r ⟨64 * q.val + j.val, by omega⟩) else 0 := by
  unfold k0_pay1
  let f : Fin 8 → S512x256.Idx → EReal := fun b =>
    select (cmpi .eq ang (broadcast S512x256 (BitVec.ofNat 32 b.val))) vals (k0_pay22 (F := Ideal))
  let cat : FVec Ideal S512x2048 .f32 := concatenate S512x2048 1 [⟨S512x256, f 0⟩, ⟨S512x256, f 1⟩, ⟨S512x256, f 2⟩, ⟨S512x256, f 3⟩,
    ⟨S512x256, f 4⟩, ⟨S512x256, f 5⟩, ⟨S512x256, f 6⟩, ⟨S512x256, f 7⟩]
    concatenates_S512x256_S512x256_S512x256_S512x256_S512x256_S512x256_S512x256_S512x256_S512x2048_d1
  refine (mm_apply cat x4 r ⟨8 * q.val + a.val, by omega⟩).trans ?_
  refine (sum_group (m := 32) (n := 64) (fun k => cat (ix2 r k)) (fun k => x4 (ix2 k ⟨8 * q.val + a.val, by omega⟩))
    ⟨4 * a.val + q.val, by omega⟩ fun i j => ?_).trans ?_
  · show x4 _ = _
    rw [h4]
    refine (group_col i j q a).trans (if_congr ?_ rfl rfl)
    rw [Fin.ext_iff]
  · refine Finset.sum_congr rfl fun j _ => ?_
    show cat (ix2 r _) = _
    rw [show finProdFinEquiv ((⟨4 * a.val + q.val, by omega⟩ : Fin 32), j)
        = (⟨256 * a.val + (64 * q.val + j.val), by omega⟩ : Fin 2048) from Fin.ext (by
          show j.val + 64 * (4 * a.val + q.val) = 256 * a.val + (64 * q.val + j.val)
          omega)]
    refine (cat8_apply f _ r a ⟨64 * q.val + j.val, by omega⟩).trans ?_
    refine (select_eq _ _ _ _).trans (if_congr Iff.rfl rfl ?_)
    exact Ideal.ofBits_zero_f32

/-- The sums over sectors of the four quantities, at an entry. -/
theorem sums_apply (h2 : IsFirst x2) (h3 : IsLast x3) (h4 : IsGroup x4) (r : Fin 512) (q : Fin 4) (a : Fin 8) :
    k0_pay1
        (k0_pay20 (k0_pay11 x1 x3) (k0_pay12 x1 x3) (k0_pay13 x0) (k0_pay14 x0) (k0_pay15 x1 x2 x3) (k0_pay16 x0))
        (k0_pay21 (k0_pay9 x1 x2) (k0_pay11 x1 x3) (k0_pay12 x1 x3) (k0_pay13 x0) (k0_pay14 x0)) (k0_pay22 (F := Ideal))
        (k0_pay23 (k0_pay9 x1 x2) (k0_pay11 x1 x3) (k0_pay12 x1 x3) (k0_pay13 x0) (k0_pay14 x0) (k0_pay15 x1 x2 x3) (k0_pay16 x0))
        (k0_pay24 (k0_pay9 x1 x2) (k0_pay11 x1 x3) (k0_pay12 x1 x3) (k0_pay13 x0) (k0_pay14 x0) (k0_pay15 x1 x2 x3) (k0_pay16 x0))
        (k0_pay25 (k0_pay9 x1 x2) (k0_pay11 x1 x3) (k0_pay12 x1 x3) (k0_pay13 x0) (k0_pay14 x0) (k0_pay15 x1 x2 x3) (k0_pay16 x0))
        x4 (ix2 r ⟨8 * q.val + a.val, by omega⟩)
      = mass (traj x0 r) (neigh x1 r) (amount (traj x0 r) (neigh x1 r) q) a := by
  refine (pay1_apply h4 _ _ r q a).trans (Finset.sum_congr rfl fun j _ => ?_)
  rw [pay20_apply x0 x1 h2 h3, pay21_apply x0 x1 h2 h3]

end

end Cert.Block
-- ==== Proof.Outs.lean ====
/- What one block of the kernel leaves in its four output blocks: the three means of every row and sector, and the directions. -/
module

public import proofs.«01_k».proof.Proof.Sums
public import proofs.«01_k».proof.Proof.Gen.KernelIdeal.Frame

@[expose] public section

noncomputable section

namespace Cert.Block

open Idealize.ShloMosaic Idealize.ShloMosaic.ValueIdx Cert.KernelIdeal Cert.KernelIdeal.Gen Cert.Row

section
variable (x0 : Vec Ideal S512x16 .f32) (x1 : Vec Ideal S512x1024 .f32) {x2 : Vec Ideal S1024x192 .f32}
  {x3 : Vec Ideal S1024x128 .f32} {x4 : Vec Ideal S2048x32 .f32}

/-- The offsets of a whole block are zero. -/
theorem off_zero : (![0, 0] : Fin 2 → Nat) = fun _ => 0 := by
  funext a; match a with | ⟨0, _⟩ => rfl | ⟨1, _⟩ => rfl

/-- The mean speeds. -/
theorem out5_apply (h2 : IsFirst x2) (h3 : IsLast x3) (h4 : IsGroup x4) (r : Fin 512) (a : Fin 8) :
    out0_5 x0 x1 x2 x3 x4 (ix2 r a) = mean (traj x0 r) (neigh x1 r) (speed (traj x0 r) (neigh x1 r)) a := by
  unfold_out out0_5
  rw [View.canon_unit_zero off_zero]
  simp only [View.ld_unit_zero (S := S512x16) off_zero, View.ld_unit_zero (S := S512x1024) off_zero,
    View.ld_unit_zero (S := S1024x192) off_zero, View.ld_unit_zero (S := S1024x128) off_zero, View.ld_unit_zero (S := S2048x32) off_zero]
  unfold k0_pay3 k0_pay2 mean
  refine congrArg₂ Ideal.div ?_ (congrArg (· + eps) ?_)
  · refine (cols_apply _ _ r a (by omega)).trans ?_
    exact sums_apply x0 x1 h2 h3 h4 r 1 a
  · refine (cols_apply _ _ r a (by omega)).trans ?_
    exact sums_apply x0 x1 h2 h3 h4 r 0 a

/-- The mean distances. -/
theorem out6_apply (h2 : IsFirst x2) (h3 : IsLast x3) (h4 : IsGroup x4) (r : Fin 512) (a : Fin 8) :
    out0_6 x0 x1 x2 x3 x4 (ix2 r a) = mean (traj x0 r) (neigh x1 r) (dist (traj x0 r) (neigh x1 r)) a := by
  unfold_out out0_6
  rw [View.canon_unit_zero off_zero]
  simp only [View.ld_unit_zero (S := S512x16) off_zero, View.ld_unit_zero (S := S512x1024) off_zero,
    View.ld_unit_zero (S := S1024x192) off_zero, View.ld_unit_zero (S := S1024x128) off_zero, View.ld_unit_zero (S := S2048x32) off_zero]
  unfold k0_pay4 k0_pay2 mean
  refine congrArg₂ Ideal.div ?_ (congrArg (· + eps) ?_)
  · refine (cols_apply _ _ r a (by omega)).trans ?_
    exact sums_apply x0 x1 h2 h3 h4 r 2 a
  · refine (cols_apply _ _ r a (by omega)).trans ?_
    exact sums_apply x0 x1 h2 h3 h4 r 0 a

/-- The mean directions. -/
theorem out7_apply (h2 : IsFirst x2) (h3 : IsLast x3) (h4 : IsGroup x4) (r : Fin 512) (a : Fin 8) :
    out0_7 x0 x1 x2 x3 x4 (ix2 r a) = mean (traj x0 r) (neigh x1 r) (dir (traj x0 r) (neigh x1 r)) a := by
  unfold_out out0_7
  rw [View.canon_unit_zero off_zero]
  simp only [View.ld_unit_zero (S := S512x16) off_zero, View.ld_unit_zero (S := S512x1024) off_zero,
    View.ld_unit_zero (S := S1024x192) off_zero, View.ld_unit_zero (S := S1024x128) off_zero, View.ld_unit_zero (S := S2048x32) off_zero]
  unfold k0_pay5 k0_pay2 mean
  refine congrArg₂ Ideal.div ?_ (congrArg (· + eps) ?_)
  · refine (cols_apply _ _ r a (by omega)).trans ?_
    exact sums_apply x0 x1 h2 h3 h4 r 3 a
  · refine (cols_apply _ _ r a (by omega)).trans ?_
    exact sums_apply x0 x1 h2 h3 h4 r 0 a

/-- The directions. -/
theorem out8_apply (h3 : IsLast x3) (r : Fin 512) (n : Fin 64) :
    out0_8 x0 x1 x2 x3 x4 (ix2 r n) = dir (traj x0 r) (neigh x1 r) n := by
  unfold_out out0_8
  rw [View.canon_unit_zero off_zero]
  simp only [View.ld_unit_zero (S := S512x16) off_zero, View.ld_unit_zero (S := S512x1024) off_zero,
    View.ld_unit_zero (S := S1024x128) off_zero]
  exact pay19_apply x0 x1 h3 r n

end

end Cert.Block
-- ==== Proof.Entry.lean ====
/- What the kernel's region finds in its input arrays, and each input window's block at a grid point: 512 rows of the reshaped
   arguments, and the three tables whole. -/
module

public import proofs.«01_k».proof.Proof.Outs
public import Idealize.ShloMosaic.Lib.StableHlo.RunRead

@[expose] public section

noncomputable section

namespace Cert.Entry

open Idealize.ShloMosaic Idealize.ShloMosaic.TcCoe Idealize.ShloMosaic.ValueIdx Idealize.SL.Sem Cert.KernelIdeal Cert.KernelIdeal.Gen
open Cert.Row Cert.Block

/-! ### The first table -/

/-- The number of the row, at every entry. -/
def rowNo : S1024x64.Idx → BitVec 32 := iotaInDim S1024x64 32 0

/-- Sixteen times the number of the column: where the column's neighbour begins. -/
def start : S1024x64.Idx → BitVec 32 :=
  muli (broadcastInDim S1024x64 ![] bcast_S_S1024x64 (constantI S_ 32 16#32)) (iotaInDim S1024x64 32 1)

/-- The three blocks of the first table: the neighbour's first coordinate, its second, all of its coordinates. -/
def marks : Fin 3 → S1024x64.Idx → BitVec 1 :=
  ![cmpi .eq rowNo start,
    cmpi .eq rowNo (addi start (broadcastInDim S1024x64 ![] bcast_S_S1024x64 (constantI S_ 32 1#32))),
    andi (cmpi .sge rowNo start)
      (cmpi .slt rowNo (addi start (broadcastInDim S1024x64 ![] bcast_S_S1024x64 (constantI S_ 32 16#32))))]

/-- The first table: its three blocks side by side, as numbers. -/
def firstTable : FVec Ideal S1024x192 .f32 :=
  uitofp .f32 (concatenate S1024x192 1 [⟨S1024x64, marks 0⟩, ⟨S1024x64, marks 1⟩, ⟨S1024x64, marks 2⟩]
    concatenates_S1024x64_S1024x64_S1024x64_S1024x192_d1)

/-- The start of a neighbour, as a word. -/
theorem start_word (n : ℕ) : (16#32 * BitVec.ofNat 32 n : BitVec 32) = BitVec.ofNat 32 (16 * n) :=
  (BitVec.ofNat_mul 16 n).symm

/-- Equality of small numbers, on words. -/
theorem word_eq (a b : ℕ) (ha : a < 4096) (hb : b < 4096) :
    IntOp.cmpi .eq (BitVec.ofNat 32 a) (BitVec.ofNat 32 b) = if a = b then 1#1 else 0#1 := by
  have h : (BitVec.ofNat 32 a = BitVec.ofNat 32 b) ↔ a = b := by
    rw [BitVec.toNat_inj.symm, BitVec.toNat_ofNat, BitVec.toNat_ofNat, Nat.mod_eq_of_lt (by omega), Nat.mod_eq_of_lt (by omega)]
  by_cases e : a = b
  · subst e; simp [IntOp.cmpi]
  · rw [if_neg e]; simp [IntOp.cmpi, beq_eq_false_iff_ne.mpr (fun q => e (h.mp q))]

/-- A small number, read as a signed word, is itself. -/
theorem word_int (a : ℕ) (ha : a < 4096) : (BitVec.ofNat 32 a).toInt = a := by
  rw [BitVec.toInt_eq_toNat_of_lt (by rw [BitVec.toNat_ofNat]; omega), BitVec.toNat_ofNat]
  omega

/-- The order of small numbers, on words. -/
theorem word_ge (a b : ℕ) (ha : a < 4096) (hb : b < 4096) :
    IntOp.cmpi .sge (BitVec.ofNat 32 a) (BitVec.ofNat 32 b) = if b ≤ a then 1#1 else 0#1 := by
  by_cases e : b ≤ a
  · rw [if_pos e]; simp [IntOp.cmpi, BitVec.sle_eq_decide, word_int _ ha, word_int _ hb, e]
  · rw [if_neg e]; simp [IntOp.cmpi, BitVec.sle_eq_decide, word_int _ ha, word_int _ hb, e]

/-- The strict order of small numbers, on words. -/
theorem word_lt (a b : ℕ) (ha : a < 4096) (hb : b < 4096) :
    IntOp.cmpi .slt (BitVec.ofNat 32 a) (BitVec.ofNat 32 b) = if a < b then 1#1 else 0#1 := by
  by_cases e : a < b
  · rw [if_pos e]; simp [IntOp.cmpi, BitVec.slt_eq_decide, word_int _ ha, word_int _ hb, e]
  · rw [if_neg e]; simp [IntOp.cmpi, BitVec.slt_eq_decide, word_int _ ha, word_int _ hb, e]

/-- The first block marks the neighbour's first coordinate. -/
theorem marks_0 (k : Fin 1024) (n : Fin 64) : marks 0 (ix2 k n) = if k.val = 16 * n.val then 1#1 else 0#1 := by
  show IntOp.cmpi .eq (BitVec.ofNat 32 k.val) (16#32 * BitVec.ofNat 32 n.val) = _
  rw [start_word, word_eq _ _ (by omega) (by omega)]

/-- The second block marks the neighbour's second coordinate. -/
theorem marks_1 (k : Fin 1024) (n : Fin 64) : marks 1 (ix2 k n) = if k.val = 16 * n.val + 1 then 1#1 else 0#1 := by
  show IntOp.cmpi .eq (BitVec.ofNat 32 k.val) (16#32 * BitVec.ofNat 32 n.val + BitVec.ofNat 32 1) = _
  rw [start_word, ← BitVec.ofNat_add, word_eq _ _ (by omega) (by omega)]

/-- The third block marks all of the neighbour's coordinates. -/
theorem marks_2 (k : Fin 1024) (n : Fin 64) : marks 2 (ix2 k n) = if k.val / 16 = n.val then 1#1 else 0#1 := by
  show IntOp.andi (IntOp.cmpi .sge (BitVec.ofNat 32 k.val) (16#32 * BitVec.ofNat 32 n.val))
    (IntOp.cmpi .slt (BitVec.ofNat 32 k.val) (16#32 * BitVec.ofNat 32 n.val + BitVec.ofNat 32 16)) = _
  rw [start_word, ← BitVec.ofNat_add, word_ge _ _ (by omega) (by omega), word_lt _ _ (by omega) (by omega)]
  by_cases e : k.val / 16 = n.val
  · rw [if_pos e, if_pos (by omega), if_pos (by omega)]; rfl
  · rw [if_neg e]
    by_cases h : 16 * n.val ≤ k.val
    · rw [if_pos h, if_neg (by omega)]; rfl
    · rw [if_neg h, if_pos (by omega)]; rfl

/-- A mark as a number. -/
theorem bit_number (p : Prop) [Decidable p] : (((if p then 1#1 else 0#1 : BitVec 1).toNat : ℝ) : EReal) = if p then 1 else 0 := by
  by_cases h : p
  · rw [if_pos h, if_pos h]; simp
  · rw [if_neg h, if_neg h]; simp

/-- Three blocks of columns side by side, at an entry. -/
theorem cat3_apply {α : Type} (f : Fin 3 → S1024x64.Idx → α)
    (h : Shape.Concatenates [S1024x64, S1024x64, S1024x64] S1024x192 1) (k : Fin 1024) (q : Fin 3) (n : Fin 64) :
    concatenate S1024x192 1 [⟨S1024x64, f 0⟩, ⟨S1024x64, f 1⟩, ⟨S1024x64, f 2⟩] h
      (ix2 k ⟨64 * q.val + n.val, by omega⟩) = f q (ix2 k n) := by
  refine concatenate_ofFn_apply (t := S1024x192) (s₁ := S1024x64) 1 f h rfl 64 rfl _ q ?_ (ix2 k n) ?_ ?_
  · show (64 * q.val + n.val) / 64 = q.val
    omega
  · show n.val = (64 * q.val + n.val) % 64
    omega
  · intro b hb
    match b with
    | ⟨0, _⟩ => rfl
    | ⟨1, _⟩ => exact absurd rfl hb

variable (m : (ℓ : Loc nD τ sig) → Buf (Elt Ideal) ℓ)

/-! ### The arrays -/

/-- At the region's entry the first window's array is the first argument, flattened to sixteen columns. -/
theorem V_v0 (c : Dev nD) : V m c main_v0 = shapeCast S16384x16 (m ((c : Thread nD τ).loc main_arg0)) shapeCasts_S16384x8x2_S16384x16 := by
  unfold V V0
  simp only [List.flatten_cons, List.flatten_nil, List.append_nil]
  after_reads_simp
  rfl

/-- At the region's entry the second window's array is the second argument, flattened to 1024 columns. -/
theorem V_v1 (c : Dev nD) : V m c main_v1 = shapeCast S16384x1024 (m ((c : Thread nD τ).loc main_arg1)) shapeCasts_S16384x64x8x2_S16384x1024 := by
  unfold V V0
  simp only [List.flatten_cons, List.flatten_nil, List.append_nil]
  after_reads_simp
  rfl

/-- At the region's entry the third window's array is the first table. -/
theorem V_v16 (c : Dev nD) : V m c main_v16 = firstTable := by
  unfold V V0
  simp only [List.flatten_cons, List.flatten_nil, List.append_nil]
  after_reads_simp
  rfl

/-- The fourth window's array holds the second table's bit patterns. -/
theorem V_cst (c : Dev nD) : V m c main_cst = fun i => Ideal.ofBits .f32 (lit0 (S1024x128.rowMajor i)) := by
  unfold V V0
  simp only [List.flatten_cons, List.flatten_nil, List.append_nil]
  after_reads_simp
  rfl

/-- The fifth window's array holds the third table's bit patterns. -/
theorem V_cst_0 (c : Dev nD) : V m c main_cst_0 = fun i => Ideal.ofBits .f32 (lit1 (S2048x32.rowMajor i)) := by
  unfold V V0
  simp only [List.flatten_cons, List.flatten_nil, List.append_nil]
  after_reads_simp
  rfl

/-! ### The windows' index maps -/

/-- Row `r` of the block at step `t` is a row of the array. -/
theorem lt_rows (t : Fin cfg0.N) (r : Fin 512) : 512 * t.val + r.val < 16384 := by
  have h : t.val < 32 := lt_of_lt_of_eq t.isLt N_0
  omega

/-- Window 0's block at step `t` is the `t`-th block of rows. -/
theorem index0_0 : ∀ t : Fin grid0.N, win0_0.index t 0 = t.val := by decide +kernel
/-- Window 1's block at step `t` is the `t`-th block of rows. -/
theorem index0_1 : ∀ t : Fin grid0.N, win0_1.index t 0 = t.val := by decide +kernel
/-- Window 5's block at step `t` is the `t`-th block of rows. -/
theorem index0_5 : ∀ t : Fin grid0.N, win0_5.index t 0 = t.val := by decide +kernel
/-- Window 6's block at step `t` is the `t`-th block of rows. -/
theorem index0_6 : ∀ t : Fin grid0.N, win0_6.index t 0 = t.val := by decide +kernel
/-- Window 7's block at step `t` is the `t`-th block of rows. -/
theorem index0_7 : ∀ t : Fin grid0.N, win0_7.index t 0 = t.val := by decide +kernel
/-- Window 8's block at step `t` is the `t`-th block of rows. -/
theorem index0_8 : ∀ t : Fin grid0.N, win0_8.index t 0 = t.val := by decide +kernel

/-- Window 0's block holds 512 rows of its array. -/
theorem iblk0_apply (c : Dev nD) (t : Fin cfg0.N) (r : Fin 512) (k : Fin 16) :
    iblk m c 0 t (ix2 r k) = V m c main_v0 (ix2 ⟨512 * t.val + r.val, lt_rows t r⟩ k) := by
  unfold iblk
  rw [View.read_apply]
  refine congrArg (V m c main_v0) (funext fun a => Fin.ext ?_)
  match a with
  | ⟨0, _⟩ =>
    show win0_0.index t 0 * 512 + 1 * r.val = 512 * t.val + r.val
    rw [index0_0]; omega
  | ⟨1, _⟩ =>
    show 0 * 16 + 1 * k.val = k.val
    omega

/-- Window 1's block holds 512 rows of its array. -/
theorem iblk1_apply (c : Dev nD) (t : Fin cfg0.N) (r : Fin 512) (k : Fin 1024) :
    iblk m c 1 t (ix2 r k) = V m c main_v1 (ix2 ⟨512 * t.val + r.val, lt_rows t r⟩ k) := by
  unfold iblk
  rw [View.read_apply]
  refine congrArg (V m c main_v1) (funext fun a => Fin.ext ?_)
  match a with
  | ⟨0, _⟩ =>
    show win0_1.index t 0 * 512 + 1 * r.val = 512 * t.val + r.val
    rw [index0_1]; omega
  | ⟨1, _⟩ =>
    show 0 * 1024 + 1 * k.val = k.val
    omega

/-- Window 2's block is its whole array, the first table. -/
theorem iblk2_first (c : Dev nD) (t : Fin cfg0.N) : IsFirst (iblk m c 2 t) := by
  have e : ∀ (k : Fin 1024) (j : Fin 192), iblk m c 2 t (ix2 k j) = V m c main_v16 (ix2 k j) := by
    intro k j
    unfold iblk
    rw [View.read_apply]
    refine congrArg (V m c main_v16) (funext fun a => Fin.ext ?_)
    match a with
    | ⟨0, _⟩ => show 0 * 1024 + 1 * k.val = k.val; omega
    | ⟨1, _⟩ => show 0 * 192 + 1 * j.val = j.val; omega
  intro k n
  have h : ∀ q : Fin 3, iblk m c 2 t (ix2 k ⟨64 * q.val + n.val, by omega⟩) = (((marks q (ix2 k n)).toNat : ℝ) : EReal) := by
    intro q
    rw [e, V_v16]
    exact congrArg (fun b : BitVec 1 => ((b.toNat : ℝ) : EReal))
      (cat3_apply marks concatenates_S1024x64_S1024x64_S1024x64_S1024x192_d1 k q n)
  refine ⟨(h 0).trans ?_, (h 1).trans ?_, (h 2).trans ?_⟩
  · rw [marks_0, bit_number]
  · rw [marks_1, bit_number]
  · rw [marks_2, bit_number]

/-- Window 3's block is its whole array, the second table. -/
theorem iblk3_last (c : Dev nD) (t : Fin cfg0.N) : IsLast (iblk m c 3 t) := by
  intro k j
  have e : iblk m c 3 t (ix2 k j) = V m c main_cst (ix2 k j) := by
    unfold iblk
    rw [View.read_apply]
    refine congrArg (V m c main_cst) (funext fun a => Fin.ext ?_)
    match a with
    | ⟨0, _⟩ => show 0 * 1024 + 1 * k.val = k.val; omega
    | ⟨1, _⟩ => show 0 * 128 + 1 * j.val = j.val; omega
  rw [e, V_cst]
  refine (congrArg (Ideal.ofBits .f32) (Tables.lit0_eq _)).trans (congrArg (fun i => Ideal.ofBits .f32 (Tables.last i)) ?_)
  refine (Shape.rowMajor_val_two _).trans ?_
  show k.val * 128 + j.val = 128 * k.val + j.val
  omega

/-- Window 4's block is its whole array, the table of groups. -/
theorem iblk4_group (c : Dev nD) (t : Fin cfg0.N) : IsGroup (iblk m c 4 t) := by
  intro k j
  have e : iblk m c 4 t (ix2 k j) = V m c main_cst_0 (ix2 k j) := by
    unfold iblk
    rw [View.read_apply]
    refine congrArg (V m c main_cst_0) (funext fun a => Fin.ext ?_)
    match a with
    | ⟨0, _⟩ => show 0 * 2048 + 1 * k.val = k.val; omega
    | ⟨1, _⟩ => show 0 * 32 + 1 * j.val = j.val; omega
  rw [e, V_cst_0]
  refine (congrArg (Ideal.ofBits .f32) (Tables.lit1_eq _)).trans (congrArg (fun i => Ideal.ofBits .f32 (Tables.group i)) ?_)
  refine (Shape.rowMajor_val_two _).trans ?_
  show k.val * 32 + j.val = 32 * k.val + j.val
  omega

/-! ### The rows -/

/-- The trajectory of row `b` of the first argument. -/
def trajAt (A : S16384x8x2.Idx → EReal) (b : Fin 16384) (t : Fin 8) (c : Fin 2) : EReal := A (ix3 b t c)

/-- The neighbours' trajectories of row `b` of the second argument. -/
def neighAt (A : S16384x64x8x2.Idx → EReal) (b : Fin 16384) (n : Fin 64) (t : Fin 8) (c : Fin 2) : EReal := A (ix4 b n t c)

/-- A row of window 0's block is a row of the first argument. -/
theorem traj_iblk (c : Dev nD) (t : Fin cfg0.N) (r : Fin 512) :
    traj (iblk m c 0 t) r = trajAt (m ((c : Thread nD τ).loc main_arg0)) ⟨512 * t.val + r.val, lt_rows t r⟩ := by
  funext p q
  unfold traj trajAt
  rw [iblk0_apply, V_v0]
  refine shapeCast_apply _ _ _ _ ?_
  refine (Shape.rowMajor_val_three _).trans (Eq.trans ?_ (Shape.rowMajor_val_two _).symm)
  show ((512 * t.val + r.val) * 8 + p.val) * 2 + q.val = (512 * t.val + r.val) * 16 + (2 * p.val + q.val)
  omega

/-- A row of window 1's block is a row of the second argument. -/
theorem neigh_iblk (c : Dev nD) (t : Fin cfg0.N) (r : Fin 512) :
    neigh (iblk m c 1 t) r = neighAt (m ((c : Thread nD τ).loc main_arg1)) ⟨512 * t.val + r.val, lt_rows t r⟩ := by
  funext n p q
  unfold neigh neighAt
  rw [iblk1_apply, V_v1]
  refine shapeCast_apply _ _ _ _ ?_
  refine (Shape.rowMajor_val_four _).trans (Eq.trans ?_ (Shape.rowMajor_val_two _).symm)
  show (((512 * t.val + r.val) * 64 + n.val) * 8 + p.val) * 2 + q.val
    = (512 * t.val + r.val) * 1024 + (16 * n.val + (2 * p.val + q.val))
  omega

end Cert.Entry
-- ==== Proof.Final.lean ====
/- What the kernel's output arrays hold after the run: the blocks tile them, so each holds one function of the arguments. -/
module

public import proofs.«01_k».proof.Proof.Entry

@[expose] public section

noncomputable section

namespace Cert.Final

open Idealize.ShloMosaic Idealize.ShloMosaic.TcCoe Idealize.ShloMosaic.ValueIdx Idealize.SL.Sem Cert.KernelIdeal Cert.KernelIdeal.Gen
open Cert.Row Cert.Block Cert.Entry
open Idealize.ShloMosaic.Pipeline (Dat)

section
variable (A0 : S16384x8x2.Idx → EReal) (A1 : S16384x64x8x2.Idx → EReal)

/-- The directions, as an array. -/
def dirArr : S16384x64.Idx → EReal := fun i => dir (trajAt A0 (i 0)) (neighAt A1 (i 0)) (i 1)

/-- One of the three means, as an array. -/
def meanArr (q : Fin 3) : S16384x8.Idx → EReal := fun i => means (trajAt A0 (i 0)) (neighAt A1 (i 0)) (i 1) q

/-- The three means, as an array. -/
def meansArr : S16384x8x3.Idx → EReal := fun i => means (trajAt A0 (i 0)) (neighAt A1 (i 0)) (i 1) (i 2)

end

variable (m : (ℓ : Loc nD τ sig) → Buf (Elt Ideal) ℓ)

/-- Row `i` of an array lies in the block of grid point `i / 512`. -/
theorem point_of_row (i : ℕ) (h : i < 16384) : ∃ t : Fin cfg0.N, t.val = i / 512 :=
  ⟨⟨i / 512, lt_of_lt_of_eq (by omega : i / 512 < 32) N_0.symm⟩, rfl⟩

/-- What a grid point writes back to window 5 is its block of the array of mean speeds. -/
theorem flushed5 (c : Dev nD) (t : Fin cfg0.N) :
    (dats m 0 c).flushed 5 t = ((cfg0.win 5).blk t).view.read (Elt Ideal)
      (meanArr (m ((c : Thread nD τ).loc main_arg0)) (m ((c : Thread nD τ).loc main_arg1)) 0) := by
  show (cfg0.win 5).cut (grid0.coords t) ((dats m 0 c).after 5 t) = _
  rw [after0_5]
  funext j
  obtain ⟨r, a, rfl⟩ : ∃ (r : Fin 512) (a : Fin 8), j = ix2 r a := ⟨_, _, eq_ix2 j⟩
  refine (out5_apply _ _ (iblk2_first m c t) (iblk3_last m c t) (iblk4_group m c t) r a).trans ?_
  rw [View.read_apply, traj_iblk, neigh_iblk]
  have e : ((cfg0.win 5).blk t).view.emb (ix2 r a) = (ix2 ⟨512 * t.val + r.val, lt_rows t r⟩ a : (⟨2, ![16384, 8]⟩ : Shape).Idx) := by
    refine funext fun b => Fin.ext ?_
    match b with
    | ⟨0, _⟩ =>
      show win0_5.index t 0 * 512 + 1 * r.val = 512 * t.val + r.val
      rw [index0_5]; omega
    | ⟨1, _⟩ =>
      show 0 * 8 + 1 * a.val = a.val
      omega
  exact (congrArg (meanArr (m ((c : Thread nD τ).loc main_arg0)) (m ((c : Thread nD τ).loc main_arg1)) 0) e).symm

/-- The blocks of window 5 tile its array. -/
theorem cover5 (i : S16384x8.Idx) : ∃ t : Fin cfg0.N, (cfg0.win 5).flush t = true ∧ i ∈ ((cfg0.win 5).blk t).view.set := by
  have h0 : (i 0 : Nat) < 16384 := (i 0).isLt
  have h1 : (i 1 : Nat) < 8 := (i 1).isLt
  obtain ⟨t, ht⟩ := point_of_row (i 0) h0
  refine ⟨t, flush0_5 t, ?_⟩
  show i ∈ ((View.whole main_v17_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [index0_5]; omega
  | ⟨1, _⟩ =>
    show 0 * 8 ≤ (i 1 : Nat) ∧ (i 1 : Nat) < 0 * 8 + 8
    omega

/-- So the array of window 5 ends holding the mean speeds. -/
theorem final5 (c : Dev nD) :
    (dats m 0 c).arrAt 5 cfg0.N = meanArr (m ((c : Thread nD τ).loc main_arg0)) (m ((c : Thread nD τ).loc main_arg1)) 0 :=
  (dats m 0 c).arrAt_eq_of_cover 5 _ (fun t _ => flushed5 m c t) cover5

/-- What a grid point writes back to window 6 is its block of the array of mean distances. -/
theorem flushed6 (c : Dev nD) (t : Fin cfg0.N) :
    (dats m 0 c).flushed 6 t = ((cfg0.win 6).blk t).view.read (Elt Ideal)
      (meanArr (m ((c : Thread nD τ).loc main_arg0)) (m ((c : Thread nD τ).loc main_arg1)) 1) := by
  show (cfg0.win 6).cut (grid0.coords t) ((dats m 0 c).after 6 t) = _
  rw [after0_6]
  funext j
  obtain ⟨r, a, rfl⟩ : ∃ (r : Fin 512) (a : Fin 8), j = ix2 r a := ⟨_, _, eq_ix2 j⟩
  refine (out6_apply _ _ (iblk2_first m c t) (iblk3_last m c t) (iblk4_group m c t) r a).trans ?_
  rw [View.read_apply, traj_iblk, neigh_iblk]
  have e : ((cfg0.win 6).blk t).view.emb (ix2 r a) = (ix2 ⟨512 * t.val + r.val, lt_rows t r⟩ a : (⟨2, ![16384, 8]⟩ : Shape).Idx) := by
    refine funext fun b => Fin.ext ?_
    match b with
    | ⟨0, _⟩ =>
      show win0_6.index t 0 * 512 + 1 * r.val = 512 * t.val + r.val
      rw [index0_6]; omega
    | ⟨1, _⟩ =>
      show 0 * 8 + 1 * a.val = a.val
      omega
  exact (congrArg (meanArr (m ((c : Thread nD τ).loc main_arg0)) (m ((c : Thread nD τ).loc main_arg1)) 1) e).symm

/-- The blocks of window 6 tile its array. -/
theorem cover6 (i : S16384x8.Idx) : ∃ t : Fin cfg0.N, (cfg0.win 6).flush t = true ∧ i ∈ ((cfg0.win 6).blk t).view.set := by
  have h0 : (i 0 : Nat) < 16384 := (i 0).isLt
  have h1 : (i 1 : Nat) < 8 := (i 1).isLt
  obtain ⟨t, ht⟩ := point_of_row (i 0) h0
  refine ⟨t, flush0_6 t, ?_⟩
  show i ∈ ((View.whole main_v17_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [index0_6]; omega
  | ⟨1, _⟩ =>
    show 0 * 8 ≤ (i 1 : Nat) ∧ (i 1 : Nat) < 0 * 8 + 8
    omega

/-- So the array of window 6 ends holding the mean distances. -/
theorem final6 (c : Dev nD) :
    (dats m 0 c).arrAt 6 cfg0.N = meanArr (m ((c : Thread nD τ).loc main_arg0)) (m ((c : Thread nD τ).loc main_arg1)) 1 :=
  (dats m 0 c).arrAt_eq_of_cover 6 _ (fun t _ => flushed6 m c t) cover6

/-- What a grid point writes back to window 7 is its block of the array of mean directions. -/
theorem flushed7 (c : Dev nD) (t : Fin cfg0.N) :
    (dats m 0 c).flushed 7 t = ((cfg0.win 7).blk t).view.read (Elt Ideal)
      (meanArr (m ((c : Thread nD τ).loc main_arg0)) (m ((c : Thread nD τ).loc main_arg1)) 2) := by
  show (cfg0.win 7).cut (grid0.coords t) ((dats m 0 c).after 7 t) = _
  rw [after0_7]
  funext j
  obtain ⟨r, a, rfl⟩ : ∃ (r : Fin 512) (a : Fin 8), j = ix2 r a := ⟨_, _, eq_ix2 j⟩
  refine (out7_apply _ _ (iblk2_first m c t) (iblk3_last m c t) (iblk4_group m c t) r a).trans ?_
  rw [View.read_apply, traj_iblk, neigh_iblk]
  have e : ((cfg0.win 7).blk t).view.emb (ix2 r a) = (ix2 ⟨512 * t.val + r.val, lt_rows t r⟩ a : (⟨2, ![16384, 8]⟩ : Shape).Idx) := by
    refine funext fun b => Fin.ext ?_
    match b with
    | ⟨0, _⟩ =>
      show win0_7.index t 0 * 512 + 1 * r.val = 512 * t.val + r.val
      rw [index0_7]; omega
    | ⟨1, _⟩ =>
      show 0 * 8 + 1 * a.val = a.val
      omega
  exact (congrArg (meanArr (m ((c : Thread nD τ).loc main_arg0)) (m ((c : Thread nD τ).loc main_arg1)) 2) e).symm

/-- The blocks of window 7 tile its array. -/
theorem cover7 (i : S16384x8.Idx) : ∃ t : Fin cfg0.N, (cfg0.win 7).flush t = true ∧ i ∈ ((cfg0.win 7).blk t).view.set := by
  have h0 : (i 0 : Nat) < 16384 := (i 0).isLt
  have h1 : (i 1 : Nat) < 8 := (i 1).isLt
  obtain ⟨t, ht⟩ := point_of_row (i 0) h0
  refine ⟨t, flush0_7 t, ?_⟩
  show i ∈ ((View.whole main_v17_2).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [index0_7]; omega
  | ⟨1, _⟩ =>
    show 0 * 8 ≤ (i 1 : Nat) ∧ (i 1 : Nat) < 0 * 8 + 8
    omega

/-- So the array of window 7 ends holding the mean directions. -/
theorem final7 (c : Dev nD) :
    (dats m 0 c).arrAt 7 cfg0.N = meanArr (m ((c : Thread nD τ).loc main_arg0)) (m ((c : Thread nD τ).loc main_arg1)) 2 :=
  (dats m 0 c).arrAt_eq_of_cover 7 _ (fun t _ => flushed7 m c t) cover7

/-- What a grid point writes back to window 8 is its block of the array of directions. -/
theorem flushed8 (c : Dev nD) (t : Fin cfg0.N) :
    (dats m 0 c).flushed 8 t = ((cfg0.win 8).blk t).view.read (Elt Ideal)
      (dirArr (m ((c : Thread nD τ).loc main_arg0)) (m ((c : Thread nD τ).loc main_arg1))) := by
  show (cfg0.win 8).cut (grid0.coords t) ((dats m 0 c).after 8 t) = _
  rw [after0_8]
  funext j
  obtain ⟨r, a, rfl⟩ : ∃ (r : Fin 512) (a : Fin 64), j = ix2 r a := ⟨_, _, eq_ix2 j⟩
  refine (out8_apply _ _ (iblk3_last m c t) r a).trans ?_
  rw [View.read_apply, traj_iblk, neigh_iblk]
  have e : ((cfg0.win 8).blk t).view.emb (ix2 r a) = (ix2 ⟨512 * t.val + r.val, lt_rows t r⟩ a : (⟨2, ![16384, 64]⟩ : Shape).Idx) := by
    refine funext fun b => Fin.ext ?_
    match b with
    | ⟨0, _⟩ =>
      show win0_8.index t 0 * 512 + 1 * r.val = 512 * t.val + r.val
      rw [index0_8]; omega
    | ⟨1, _⟩ =>
      show 0 * 64 + 1 * a.val = a.val
      omega
  exact (congrArg (dirArr (m ((c : Thread nD τ).loc main_arg0)) (m ((c : Thread nD τ).loc main_arg1))) e).symm

/-- The blocks of window 8 tile its array. -/
theorem cover8 (i : S16384x64.Idx) : ∃ t : Fin cfg0.N, (cfg0.win 8).flush t = true ∧ i ∈ ((cfg0.win 8).blk t).view.set := by
  have h0 : (i 0 : Nat) < 16384 := (i 0).isLt
  have h1 : (i 1 : Nat) < 64 := (i 1).isLt
  obtain ⟨t, ht⟩ := point_of_row (i 0) h0
  refine ⟨t, flush0_8 t, ?_⟩
  show i ∈ ((View.whole main_v17_3).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [index0_8]; omega
  | ⟨1, _⟩ =>
    show 0 * 64 ≤ (i 1 : Nat) ∧ (i 1 : Nat) < 0 * 64 + 64
    omega

/-- So the array of window 8 ends holding the directions. -/
theorem final8 (c : Dev nD) :
    (dats m 0 c).arrAt 8 cfg0.N = dirArr (m ((c : Thread nD τ).loc main_arg0)) (m ((c : Thread nD τ).loc main_arg1)) :=
  (dats m 0 c).arrAt_eq_of_cover 8 _ (fun t _ => flushed8 m c t) cover8

end Cert.Final
-- ==== Proof.KernelRun.lean ====
/- The kernel's run: both results as functions of the arguments, the arguments unchanged. -/
module

public import proofs.«01_k».proof.Proof.Final

@[expose] public section

noncomputable section

namespace Cert.KernelRun

open Idealize.ShloMosaic Idealize.ShloMosaic.TcCoe Idealize.ShloMosaic.ValueIdx Idealize.SL.Sem Cert.KernelIdeal Cert.KernelIdeal.Gen
open Cert.Row Cert.Block Cert.Entry Cert.Final
open Idealize.ShloMosaic.Pipeline (Dat)

/-- Three arrays of means put side by side along a new last axis. -/
def stack (u0 u1 u2 : S16384x8.Idx → EReal) : S16384x8x3.Idx → EReal :=
  concatenate S16384x8x3 2
    [⟨S16384x8x1, broadcastInDim S16384x8x1 ![0, 1] bcast_S16384x8_S16384x8x1_0_1 u0⟩,
      ⟨S16384x8x1, broadcastInDim S16384x8x1 ![0, 1] bcast_S16384x8_S16384x8x1_0_1 u1⟩,
      ⟨S16384x8x1, broadcastInDim S16384x8x1 ![0, 1] bcast_S16384x8_S16384x8x1_0_1 u2⟩]
    concatenates_S16384x8x1_S16384x8x1_S16384x8x1_S16384x8x3_d2

/-- The stack at an entry is the entry of the array its last coordinate names. -/
theorem stack_apply (u : Fin 3 → S16384x8.Idx → EReal) (b : Fin 16384) (a : Fin 8) (q : Fin 3) :
    stack (u 0) (u 1) (u 2) (ix3 b a q) = u q (ix2 b a) := by
  unfold stack
  refine (concatenate_ofFn_unit_apply (t := S16384x8x3) (s₁ := S16384x8x1) 2
    (fun n : Fin 3 => broadcastInDim S16384x8x1 ![0, 1] bcast_S16384x8_S16384x8x1_0_1 (u n))
    concatenates_S16384x8x1_S16384x8x1_S16384x8x1_S16384x8x3_d2 rfl rfl (ix3 b a q) q rfl (ix3 b a 0) ?_).trans ?_
  · intro k hk
    match k with
    | ⟨0, _⟩ => rfl
    | ⟨1, _⟩ => rfl
    | ⟨2, _⟩ => exact absurd rfl hk
  · refine broadcastInDim_apply _ _ _ _ _ fun k => ?_
    match k with
    | ⟨0, _⟩ => rfl
    | ⟨1, _⟩ => rfl

/-- The host operations after the region leave the stack of the three arrays of means. -/
theorem tail_eq (W : Valuation τ sig (Elt Ideal)) :
    StableHlo.after (List.flatten [hostOps1]) W (Proc.devRef .tc main_v21)
      = stack (W (Proc.devRef .tc main_v17_0)) (W (Proc.devRef .tc main_v17_1)) (W (Proc.devRef .tc main_v17_2)) := by
  simp only [List.flatten_cons, List.flatten_nil, List.append_nil]
  after_reads_simp
  rfl

variable (m : (ℓ : Loc nD τ sig) → Buf (Elt Ideal) ℓ) (ρ : Dev nD → PrngReg)

/-- The result of the host operations after the region: the three means. -/
theorem W_v21 (c : Dev nD) :
    Pipeline.afterTail₀ cfgs (dats m) 0 (V0 m) [hostOps1] c main_v21
      = meansArr (m ((c : Thread nD τ).loc main_arg0)) (m ((c : Thread nD τ).loc main_arg1)) := by
  unfold Pipeline.afterTail₀
  rw [tail_eq]
  have hinj : Function.Injective (Pipeline.arrRef spec0) := by decide
  have e5 := Pipeline.withArrays_arr spec0 hinj c (V0 m c) (fun w => (dats m 0 c).arrAt w cfg0.N) 5
  have e6 := Pipeline.withArrays_arr spec0 hinj c (V0 m c) (fun w => (dats m 0 c).arrAt w cfg0.N) 6
  have e7 := Pipeline.withArrays_arr spec0 hinj c (V0 m c) (fun w => (dats m 0 c).arrAt w cfg0.N) 7
  rw [final5] at e5
  rw [final6] at e6
  rw [final7] at e7
  refine (congrArg (fun u : Fin 3 → S16384x8.Idx → EReal => stack (u 0) (u 1) (u 2))
    (funext fun q : Fin 3 => (?_ : ![_, _, _] q
      = meanArr (m ((c : Thread nD τ).loc main_arg0)) (m ((c : Thread nD τ).loc main_arg1)) q))).trans ?_
  · match q with
    | 0 => exact e5
    | 1 => exact e6
    | 2 => exact e7
  · funext i
    obtain ⟨b, a, q, rfl⟩ : ∃ (b : Fin 16384) (a : Fin 8) (q : Fin 3), i = ix3 b a q := ⟨_, _, _, eq_ix3 i⟩
    exact stack_apply (meanArr _ _) b a q

/-- The kernel's run: the means and the directions of the arguments, the arguments unchanged. -/
theorem run : θ_run defs (onTc (τ := τ) (main (F := Ideal))) ⟨m, fun _ => 0, ρ⟩ fun r => ∀ c : Dev nD,
      r.2.mem ((c : Thread nD τ).loc main_v21) = meansArr (m ((c : Thread nD τ).loc main_arg0)) (m ((c : Thread nD τ).loc main_arg1))
      ∧ r.2.mem ((c : Thread nD τ).loc main_v17_3) = dirArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v21 (by decide)).trans (W_v21 m c), ((h c).1 8).trans (final8 m c),
      ((h c).2 main_arg0 (by decide)).trans (W_main_arg0 m (dats m) c),
      ((h c).2 main_arg1 (by decide)).trans (W_main_arg1 m (dats m) c)⟩)
    (run_main m ρ)

end Cert.KernelRun
-- ==== Proof.RefPoint.lean ====
/- The reference's value at one neighbour of one row: the speed, the distance, the direction and the sector. -/
module

public import proofs.«01_k».proof.Proof.Entry
public import proofs.«01_k».proof.Proof.Gen.ReferenceIdeal.Read
public import Idealize.ShloMosaic.Lib.IdealHost

@[expose] public section

noncomputable section

namespace Cert.Ref

open Idealize.ShloMosaic Idealize.ShloMosaic.ValueIdx Cert.ReferenceIdeal Cert.ReferenceIdeal.Gen Cert.ReferenceIdeal.Read
open Cert.Row Cert.Entry

variable (A0 : S16384x8x2.Idx → EReal) (A1 : S16384x64x8x2.Idx → EReal)

/-! ### Differences of points -/

/-- The trajectory's last point minus its first. -/
theorem v2_at (b : Fin 16384) (u : Fin 1) (c : Fin 2) :
    val_main_v2 (F := Ideal) A0 (ix3 b u c) = trajAt A0 b 7 c - trajAt A0 b 0 c := by
  have h0 : idx_main_v0 (ix3 b u c) = ix3 b 7 c := funext fun k => Fin.ext (by
    match k with
    | ⟨0, _⟩ => rfl
    | ⟨1, _⟩ => show 7 + u.val = 7; omega
    | ⟨2, _⟩ => rfl)
  have h1 : idx_main_v1 (ix3 b u c) = ix3 b 0 c := funext fun k => Fin.ext (by
    match k with
    | ⟨0, _⟩ => rfl
    | ⟨1, _⟩ => show u.val = 0; omega
    | ⟨2, _⟩ => rfl)
  rw [val_main_v2_apply, val_main_v0_apply, val_main_v1_apply, h0, h1]
  rfl

/-- The position the neighbours' last points are read at. -/
theorem pos4 (b : Fin 16384) (n : Fin 64) (c : Fin 2) : idx_main_v3 (idx_main_v4 (ix3 b n c)) = ix4 b n 7 c :=
  funext fun k => Fin.ext (by
    have hn := n.isLt
    have hc := c.isLt
    match k with
    | ⟨0, _⟩ => show ((b.val * 64 + n.val) * 2 + c.val) / 128 = b.val; omega
    | ⟨1, _⟩ => show ((b.val * 64 + n.val) * 2 + c.val) / 2 % 64 = n.val; omega
    | ⟨2, _⟩ => rfl
    | ⟨3, _⟩ => show ((b.val * 64 + n.val) * 2 + c.val) % 2 = c.val; omega)

/-- The position the neighbours' first points are read at. -/
theorem pos6 (b : Fin 16384) (n : Fin 64) (c : Fin 2) : idx_main_v5 (idx_main_v6 (ix3 b n c)) = ix4 b n 0 c :=
  funext fun k => Fin.ext (by
    have hn := n.isLt
    have hc := c.isLt
    match k with
    | ⟨0, _⟩ => show ((b.val * 64 + n.val) * 2 + c.val) / 128 = b.val; omega
    | ⟨1, _⟩ => show ((b.val * 64 + n.val) * 2 + c.val) / 2 % 64 = n.val; omega
    | ⟨2, _⟩ => rfl
    | ⟨3, _⟩ => show ((b.val * 64 + n.val) * 2 + c.val) % 2 = c.val; omega)

/-- A neighbour's last point minus its first. -/
theorem v7_at (b : Fin 16384) (n : Fin 64) (c : Fin 2) :
    val_main_v7 (F := Ideal) A1 (ix3 b n c) = neighAt A1 b n 7 c - neighAt A1 b n 0 c := by
  rw [val_main_v7_apply, val_main_v4_apply, val_main_v6_apply, val_main_v3_apply, val_main_v5_apply, pos4, pos6]
  rfl

/-- The position the trajectory's last point is read at. -/
theorem pos21 (b : Fin 16384) (n : Fin 64) (c : Fin 2) :
    idx_main_v18 (idx_main_v19 (idx_main_v20 (idx_main_v21 (ix3 b n c)))) = ix3 b 7 c :=
  funext fun k => Fin.ext (by
    have hc := c.isLt
    match k with
    | ⟨0, _⟩ => show (b.val * 2 + c.val) / 2 = b.val; omega
    | ⟨1, _⟩ => rfl
    | ⟨2, _⟩ => show (b.val * 2 + c.val) % 2 = c.val; omega)

/-- A neighbour's last point minus the trajectory's. -/
theorem v22_at (b : Fin 16384) (n : Fin 64) (c : Fin 2) :
    val_main_v22 (F := Ideal) A0 A1 (ix3 b n c) = neighAt A1 b n 7 c - trajAt A0 b 7 c := by
  rw [val_main_v22_apply, val_main_v17_apply, val_main_v21_apply, val_main_v16_apply, val_main_v20_apply,
    val_main_v19_apply, val_main_v18_apply, pos21]
  rw [show idx_main_v16 (idx_main_v17 (ix3 b n c)) = ix4 b n 7 c from pos4 b n c]
  rfl

/-! ### Lengths -/

/-- The length of a neighbour's way. -/
theorem v8_at (b : Fin 16384) (n : Fin 64) : val_main_v8 (F := Ideal) A1 (ix2 b n)
    = hyp (neighAt A1 b n 7 0 - neighAt A1 b n 0 0) (neighAt A1 b n 7 1 - neighAt A1 b n 0 1) := by
  have h : ∀ k : Fin 2, idx_main_call0_v1 (ix2 b n) k = ix3 b n k := fun k => funext fun a => by
    match a with
    | ⟨0, _⟩ => rfl
    | ⟨1, _⟩ => rfl
    | ⟨2, _⟩ => rfl
  rw [val_main_v8_apply, val_main_call0_v1_apply, Fin.sum_univ_two, h, h, val_main_call0_v0_apply, val_main_call0_v0_apply,
    v7_at, v7_at, val_main_call0_cst_apply]
  show Ideal.sqrt (Ideal.ofBits .f32 0x00000000#32 + _) = _
  rw [Ideal.ofBits_zero_f32, zero_add]
  rfl

/-- The length of the trajectory's own way. -/
theorem v9_at (b : Fin 16384) (u : Fin 1) : val_main_v9 (F := Ideal) A0 (ix2 b u)
    = hyp (trajAt A0 b 7 0 - trajAt A0 b 0 0) (trajAt A0 b 7 1 - trajAt A0 b 0 1) := by
  have h : ∀ k : Fin 2, idx_main_call1_v1 (ix2 b u) k = ix3 b u k := fun k => funext fun a => by
    match a with
    | ⟨0, _⟩ => rfl
    | ⟨1, _⟩ => rfl
    | ⟨2, _⟩ => rfl
  rw [val_main_v9_apply, val_main_call1_v1_apply, Fin.sum_univ_two, h, h, val_main_call1_v0_apply, val_main_call1_v0_apply,
    v2_at, v2_at, val_main_call1_cst_apply]
  show Ideal.sqrt (Ideal.ofBits .f32 0x00000000#32 + _) = _
  rw [Ideal.ofBits_zero_f32, zero_add]
  rfl

/-- The reference's first quantity is the speed. -/
theorem v15_at (b : Fin 16384) (n : Fin 64) :
    val_main_v15 (F := Ideal) A0 A1 (ix2 b n) = speed (trajAt A0 b) (neighAt A1 b) n := by
  have h : idx_main_v14 (ix2 b n) = ix2 b 0 := funext fun a => by
    match a with
    | ⟨0, _⟩ => rfl
    | ⟨1, _⟩ => rfl
  rw [val_main_v15_apply, val_main_v11_apply, val_main_v14_apply, val_main_v13_apply, h, v8_at, v9_at, val_main_v10_apply,
    val_main_v12_apply]
  rfl

/-- The reference's second quantity is the distance. -/
theorem v23_at (b : Fin 16384) (n : Fin 64) :
    val_main_v23 (F := Ideal) A0 A1 (ix2 b n) = dist (trajAt A0 b) (neighAt A1 b) n := by
  have h : ∀ k : Fin 2, idx_main_call2_v1 (ix2 b n) k = ix3 b n k := fun k => funext fun a => by
    match a with
    | ⟨0, _⟩ => rfl
    | ⟨1, _⟩ => rfl
    | ⟨2, _⟩ => rfl
  rw [val_main_v23_apply, val_main_call2_v1_apply, Fin.sum_univ_two, h, h, val_main_call2_v0_apply, val_main_call2_v0_apply,
    v22_at, v22_at, val_main_call2_cst_apply]
  show Ideal.sqrt (Ideal.ofBits .f32 0x00000000#32 + _) = _
  rw [Ideal.ofBits_zero_f32, zero_add]
  rfl

/-! ### Directions and sectors -/

/-- The second coordinate of the difference of last points. -/
theorem v25_at (b : Fin 16384) (n : Fin 64) :
    val_main_v25 (F := Ideal) A0 A1 (ix2 b n) = neighAt A1 b n 7 1 - trajAt A0 b 7 1 := by
  rw [val_main_v25_apply, val_main_v24_apply]
  refine (congrArg (val_main_v22 (F := Ideal) A0 A1) (funext fun k => Fin.ext ?_ : _ = ix3 b n 1)).trans (v22_at A0 A1 b n 1)
  have hn := n.isLt
  match k with
  | ⟨0, _⟩ => show (b.val * 64 + n.val) / 64 = b.val; omega
  | ⟨1, _⟩ => show (b.val * 64 + n.val) / 1 % 64 = n.val; omega
  | ⟨2, _⟩ => rfl

/-- The first coordinate of the difference of last points. -/
theorem v27_at (b : Fin 16384) (n : Fin 64) :
    val_main_v27 (F := Ideal) A0 A1 (ix2 b n) = neighAt A1 b n 7 0 - trajAt A0 b 7 0 := by
  rw [val_main_v27_apply, val_main_v26_apply]
  refine (congrArg (val_main_v22 (F := Ideal) A0 A1) (funext fun k => Fin.ext ?_ : _ = ix3 b n 0)).trans (v22_at A0 A1 b n 0)
  have hn := n.isLt
  match k with
  | ⟨0, _⟩ => show (b.val * 64 + n.val) / 64 = b.val; omega
  | ⟨1, _⟩ => show (b.val * 64 + n.val) / 1 % 64 = n.val; omega
  | ⟨2, _⟩ => rfl

/-- The remainder of the angle by the full turn. -/
theorem rem_at (b : Fin 16384) (n : Fin 64) : val_main_call3_v2 (F := Ideal) A0 A1 (ix2 b n)
    = Ideal.remf (Ideal.atan2 (neighAt A1 b n 7 1 - trajAt A0 b 7 1) (neighAt A1 b n 7 0 - trajAt A0 b 7 0)) tau := by
  rw [val_main_call3_v2_apply, val_main_v28_apply, v25_at, v27_at, val_main_call3_v1_apply]
  rfl

/-- The reference's third quantity, its second result, is the direction. -/
theorem v29_at (b : Fin 16384) (n : Fin 64) :
    val_main_v29 (F := Ideal) A0 A1 (ix2 b n) = dir (trajAt A0 b) (neighAt A1 b) n := by
  rw [val_main_v29_apply, val_main_call3_v10_apply, val_main_call3_v12_apply, val_main_call3_v9_apply,
    val_main_call3_v4_apply, val_main_call3_v6_apply, rem_at, val_main_call3_v3_apply, val_main_call3_v5_apply,
    val_main_call3_v8_apply, val_main_call3_v7_apply, val_main_call3_v11_apply]
  unfold dir
  generalize Ideal.remf _ tau = r
  show Scalar.select (IntOp.andi (IntOp.cmpi .ne (Ideal.cmp .olt r (Ideal.ofBits .f32 0x00000000#32))
    (Ideal.cmp .olt tau (Ideal.ofBits .f32 0x00000000#32))) (Ideal.cmp .une r (Ideal.ofBits .f32 0x00000000#32))) (r + tau) r = _
  rw [Ideal.ofBits_zero_f32]
  rfl

/-- A sum over the two inner axes, at one neighbour. -/
theorem v33_at (b : Fin 16384) (n : Fin 64) :
    val_main_v33 (F := Ideal) A1 (ix2 b n) = ∑ t : Fin 8, ∑ c : Fin 2, neighAt A1 b n t c := by
  unfold val_main_v33
  rw [hostReduceAdd_apply]
  unfold Ideal.hostReduceAdd
  rw [show val_main_cst_3 (F := Ideal) (Shape.Idx.first h_S_) = 0 from Ideal.ofBits_zero_f32, zero_add, ← Fintype.sum_prod_type']
  refine Finset.sum_bij' (fun i _ => ((i 2 : Fin 8), (i 3 : Fin 2))) (fun p _ => ix4 b n p.1 p.2) ?_ ?_ ?_ ?_ ?_
  · intro i _; exact Finset.mem_univ _
  · intro p _
    refine Finset.mem_filter.mpr ⟨Finset.mem_univ _, funext fun k => Fin.ext ?_⟩
    match k with
    | ⟨0, _⟩ => rfl
    | ⟨1, _⟩ => rfl
  · intro i hi
    have h := (Finset.mem_filter.mp hi).2
    funext k
    match k with
    | ⟨0, _⟩ => exact (congrFun h 0).symm
    | ⟨1, _⟩ => exact (congrFun h 1).symm
    | ⟨2, _⟩ => rfl
    | ⟨3, _⟩ => rfl
  · intro p _; rfl
  · intro i hi
    have h := (Finset.mem_filter.mp hi).2
    refine congrArg A1 (funext fun k => ?_)
    match k with
    | ⟨0, _⟩ => exact congrFun h 0
    | ⟨1, _⟩ => exact congrFun h 1
    | ⟨2, _⟩ => rfl
    | ⟨3, _⟩ => rfl

/-- The reference's integer mask holds the sector. -/
theorem v42_at (b : Fin 16384) (n : Fin 64) :
    val_main_v42 (F := Ideal) A0 A1 (ix2 b n) = sector (trajAt A0 b) (neighAt A1 b) n := by
  rw [val_main_v42_apply, val_main_v37_apply, val_main_v41_apply, val_main_v39_apply, val_main_v36_apply, val_main_v35_apply,
    val_main_v32_apply, val_main_v31_apply, v29_at, v33_at, val_main_v30_apply, val_main_v34_apply, val_main_v38_apply,
    val_main_v40_apply]
  refine (int_mask _ _).trans ?_
  unfold sector present
  show Scalar.select (Ideal.cmp .une _ (Ideal.ofBits .f32 0x00000000#32)) _ _ = _
  rw [Ideal.ofBits_zero_f32]
  rfl

end Cert.Ref
-- ==== Proof.RefParts.lean ====
/- The reference's eight sectors, each three means, and their arrangement: its first result is the array of means. -/
module

public import proofs.«01_k».proof.Proof.RefPoint
public import proofs.«01_k».proof.Proof.Final
public import Idealize.ShloMosaic.Lib.Pipeline.Value

@[expose] public section

noncomputable section

namespace Cert.Ref

open Idealize.ShloMosaic Idealize.ShloMosaic.ValueIdx Cert.ReferenceIdeal Cert.ReferenceIdeal.Gen Cert.ReferenceIdeal.Read
open Cert.Row Cert.Entry

/-- The reference's mask of a sector: one where the sector number is `a`, zero elsewhere. -/
def maskOf (s : S16384x64.Idx → BitVec 32) (a : BitVec 32) : FVec Ideal S16384x64 .f32 :=
  uitofp .f32 (cmpi .eq s (broadcastInDim S16384x64 ![] bcast_S_S16384x64 (constantI S_ 32 a)))

/-- A masked sum over the neighbours, as the reference takes it. -/
def sumOf (v : FVec Ideal S16384x64 .f32) : FVec Ideal S16384 .f32 :=
  Host.reduceAdd v (constant S_ .f32 0x00000000#32) reducesTo_S16384x64_S16384_d1 h_S_

/-- The quotient of one array by another and a constant, at an entry. -/
theorem quot_apply (x y z : FVec Ideal S16384 .f32) (i : S16384.Idx) : Host.divf x (addf y z) i = Ideal.div (x i) (y i + z i) := rfl

/-- A masked mean over the neighbours, as the reference takes it. -/
def meanOf (v k : FVec Ideal S16384x64 .f32) : FVec Ideal S16384 .f32 :=
  Host.divf (sumOf (mulf v k)) (addf (sumOf k) (broadcastInDim S16384 ![] bcast_S_S16384 (constant S_ .f32 0x38D1B717#32)))

/-- Three arrays over the batch, one above the other. -/
def above (u0 u1 u2 : FVec Ideal S16384 .f32) : FVec Ideal S3x16384 .f32 :=
  concatenate S3x16384 0
    [⟨S1x16384, broadcastInDim S1x16384 ![1] bcast_S16384_S1x16384_1 u0⟩,
      ⟨S1x16384, broadcastInDim S1x16384 ![1] bcast_S16384_S1x16384_1 u1⟩,
      ⟨S1x16384, broadcastInDim S1x16384 ![1] bcast_S16384_S1x16384_1 u2⟩]
    concatenates_S1x16384_S1x16384_S1x16384_S3x16384_d0

/-- Three arrays one above the other, at an entry. -/
theorem above_apply (u : Fin 3 → FVec Ideal S16384 .f32) (q : Fin 3) (b : Fin 16384) :
    above (u 0) (u 1) (u 2) (ix2 q b) = u q (ix1 b) := by
  unfold above
  refine (concatenate_ofFn_unit_apply (t := S3x16384) (s₁ := S1x16384) 0
    (fun n : Fin 3 => broadcastInDim S1x16384 ![1] bcast_S16384_S1x16384_1 (u n))
    concatenates_S1x16384_S1x16384_S1x16384_S3x16384_d0 rfl rfl (ix2 q b) q rfl (ix2 0 b) ?_).trans ?_
  · intro k hk
    match k with
    | ⟨0, _⟩ => exact absurd rfl hk
    | ⟨1, _⟩ => rfl
  · refine broadcastInDim_apply _ _ _ _ _ fun k => ?_
    match k with
    | ⟨0, _⟩ => rfl

/-- The three means of one sector, one above the other. -/
def rowsOf (s : S16384x64.Idx → BitVec 32) (v0 v1 v2 : FVec Ideal S16384x64 .f32) (a : BitVec 32) : FVec Ideal S3x16384 .f32 :=
  above (meanOf v0 (maskOf s a)) (meanOf v1 (maskOf s a)) (meanOf v2 (maskOf s a))

/-- A sum over the neighbours at a row. -/
theorem sumOf_apply (v : FVec Ideal S16384x64 .f32) (b : Fin 16384) : sumOf v (ix1 b) = ∑ n : Fin 64, v (ix2 b n) := by
  unfold sumOf
  rw [hostReduceAdd_apply, Ideal.hostReduceAdd_single reducesTo_S16384x64_S16384_d1 (by decide)]
  rw [show (constant S_ .f32 0x00000000#32 : FVec Ideal S_ .f32) (Shape.Idx.first h_S_) = 0 from Ideal.ofBits_zero_f32, zero_add]
  refine Finset.sum_congr rfl fun n _ => congrArg v (funext fun k => Fin.ext ?_)
  match k with
  | ⟨0, _⟩ => rfl
  | ⟨1, _⟩ => rfl

/-- The mask at an entry is the comparison's bit as a number. -/
theorem maskOf_apply (s : S16384x64.Idx → BitVec 32) (a : BitVec 32) (i : S16384x64.Idx) :
    maskOf s a i = (((IntOp.cmpi .eq (s i) a).toNat : ℝ) : EReal) := by
  have h : broadcastInDim S16384x64 ![] bcast_S_S16384x64 (constantI S_ 32 a) i = a :=
    broadcastInDim_apply _ _ _ i (fun k => k.elim0) fun k => k.elim0
  show ((((IntOp.cmpi .eq (s i) (broadcastInDim S16384x64 ![] bcast_S_S16384x64 (constantI S_ 32 a) i)).toNat : ℝ)) : EReal) = _
  rw [h]

/-- A masked mean at a row: the chosen entries' sum over their number and the small constant. -/
theorem meanOf_apply (s : S16384x64.Idx → BitVec 32) (a : BitVec 32) (v : FVec Ideal S16384x64 .f32) (b : Fin 16384) :
    meanOf v (maskOf s a) (ix1 b)
      = Ideal.div (∑ n : Fin 64, if s (ix2 b n) = a then v (ix2 b n) else 0)
          ((∑ n : Fin 64, if s (ix2 b n) = a then 1 else 0) + eps) := by
  have hc : broadcastInDim S16384 ![] bcast_S_S16384 (constant S_ .f32 0x38D1B717#32 : FVec Ideal S_ .f32) (ix1 b) = eps :=
    broadcastInDim_apply _ _ _ (ix1 b) (fun k => k.elim0) fun k => k.elim0
  unfold meanOf
  rw [quot_apply, hc, sumOf_apply, sumOf_apply]
  have h1 : ∀ n : Fin 64, mulf v (maskOf s a) (ix2 b n) = if s (ix2 b n) = a then v (ix2 b n) else 0 := fun n => by
    show v (ix2 b n) * maskOf s a (ix2 b n) = _
    rw [maskOf_apply, float_mask]
  have h2 : ∀ n : Fin 64, maskOf s a (ix2 b n) = if s (ix2 b n) = a then 1 else 0 := fun n => by
    rw [maskOf_apply, ← float_mask, one_mul]
  rw [Finset.sum_congr rfl fun n _ => h1 n, Finset.sum_congr rfl fun n _ => h2 n]

/-- The rows of a sector at an entry. -/
theorem rowsOf_apply (s : S16384x64.Idx → BitVec 32) (v : Fin 3 → FVec Ideal S16384x64 .f32) (a : BitVec 32)
    (q : Fin 3) (b : Fin 16384) : rowsOf s (v 0) (v 1) (v 2) a (ix2 q b) = meanOf (v q) (maskOf s a) (ix1 b) :=
  above_apply (fun n => meanOf (v n) (maskOf s a)) q b

variable (A0 : S16384x8x2.Idx → EReal) (A1 : S16384x64x8x2.Idx → EReal)

/-- The three quantities the reference averages. -/
def quant (q : Fin 3) : FVec Ideal S16384x64 .f32 :=
  ![val_main_v15 (F := Ideal) A0 A1, val_main_v23 (F := Ideal) A0 A1, val_main_v29 (F := Ideal) A0 A1] q

/-- The three means of sector `a`, of the reference's own quantities. -/
def rowsAt (a : Fin 8) : FVec Ideal S3x16384 .f32 :=
  rowsOf (val_main_v42 (F := Ideal) A0 A1) (quant A0 A1 0) (quant A0 A1 1) (quant A0 A1 2) (BitVec.ofNat 32 a)

/-- The reference's first array of three rows holds the means of sector 0. -/
theorem rows0 : val_main_v61 (F := Ideal) A0 A1 = rowsAt A0 A1 0 := rfl

/-- The reference's second array of three rows holds the means of sector 1. -/
theorem rows1 : val_main_v80 (F := Ideal) A0 A1 = rowsAt A0 A1 1 := rfl

/-- The reference's third array of three rows holds the means of sector 2. -/
theorem rows2 : val_main_v99 (F := Ideal) A0 A1 = rowsAt A0 A1 2 := rfl

/-- The reference's fourth array of three rows holds the means of sector 3. -/
theorem rows3 : val_main_v118 (F := Ideal) A0 A1 = rowsAt A0 A1 3 := rfl

/-- The reference's fifth array of three rows holds the means of sector 4. -/
theorem rows4 : val_main_v137 (F := Ideal) A0 A1 = rowsAt A0 A1 4 := rfl

/-- The reference's sixth array of three rows holds the means of sector 5. -/
theorem rows5 : val_main_v156 (F := Ideal) A0 A1 = rowsAt A0 A1 5 := rfl

/-- The reference's seventh array of three rows holds the means of sector 6. -/
theorem rows6 : val_main_v175 (F := Ideal) A0 A1 = rowsAt A0 A1 6 := rfl

/-- The reference's eighth array of three rows holds the means of sector 7. -/
theorem rows7 : val_main_v194 (F := Ideal) A0 A1 = rowsAt A0 A1 7 := rfl

/-- A sector's three means at a row are the means of the problem. -/
theorem rowsAt_apply (a : Fin 8) (q : Fin 3) (b : Fin 16384) :
    rowsAt A0 A1 a (ix2 q b) = means (trajAt A0 b) (neighAt A1 b) a q := by
  unfold rowsAt
  rw [rowsOf_apply, meanOf_apply]
  have hq : ∀ n : Fin 64, quant A0 A1 q (ix2 b n)
      = (if q = 0 then speed (trajAt A0 b) (neighAt A1 b) else if q = 1 then dist (trajAt A0 b) (neighAt A1 b)
          else dir (trajAt A0 b) (neighAt A1 b)) n := fun n => by
    match q with
    | 0 => exact v15_at A0 A1 b n
    | 1 => exact v23_at A0 A1 b n
    | 2 => exact v29_at A0 A1 b n
  simp only [hq, v42_at]
  rfl

/-- Eight arrays of rows put together along a new first axis, the last axis then moved to the front. -/
def arrange (r0 r1 r2 r3 r4 r5 r6 r7 : FVec Ideal S3x16384 .f32) : FVec Ideal S16384x8x3 .f32 :=
  transpose S16384x8x3 [2, 0, 1] (concatenate S8x3x16384 0
    [⟨S1x3x16384, broadcastInDim S1x3x16384 ![1, 2] bcast_S3x16384_S1x3x16384_1_2 r0⟩,
      ⟨S1x3x16384, broadcastInDim S1x3x16384 ![1, 2] bcast_S3x16384_S1x3x16384_1_2 r1⟩,
      ⟨S1x3x16384, broadcastInDim S1x3x16384 ![1, 2] bcast_S3x16384_S1x3x16384_1_2 r2⟩,
      ⟨S1x3x16384, broadcastInDim S1x3x16384 ![1, 2] bcast_S3x16384_S1x3x16384_1_2 r3⟩,
      ⟨S1x3x16384, broadcastInDim S1x3x16384 ![1, 2] bcast_S3x16384_S1x3x16384_1_2 r4⟩,
      ⟨S1x3x16384, broadcastInDim S1x3x16384 ![1, 2] bcast_S3x16384_S1x3x16384_1_2 r5⟩,
      ⟨S1x3x16384, broadcastInDim S1x3x16384 ![1, 2] bcast_S3x16384_S1x3x16384_1_2 r6⟩,
      ⟨S1x3x16384, broadcastInDim S1x3x16384 ![1, 2] bcast_S3x16384_S1x3x16384_1_2 r7⟩]
    concatenates_S1x3x16384_S1x3x16384_S1x3x16384_S1x3x16384_S1x3x16384_S1x3x16384_S1x3x16384_S1x3x16384_S8x3x16384_d0)
    transposes_S8x3x16384_S16384x8x3_2_0_1

/-- The arrangement at an entry. -/
theorem arrange_apply (r : Fin 8 → FVec Ideal S3x16384 .f32) (b : Fin 16384) (a : Fin 8) (q : Fin 3) :
    arrange (r 0) (r 1) (r 2) (r 3) (r 4) (r 5) (r 6) (r 7) (ix3 b a q) = r a (ix2 q b) := by
  unfold arrange
  refine (transpose_apply [2, 0, 1] _ transposes_S8x3x16384_S16384x8x3_2_0_1 (ix3 b a q) (ix3 a q b) fun k => ?_).trans ?_
  · match k with
    | ⟨0, _⟩ => rfl
    | ⟨1, _⟩ => rfl
    | ⟨2, _⟩ => rfl
  refine (concatenate_ofFn_unit_apply (t := S8x3x16384) (s₁ := S1x3x16384) 0
    (fun n : Fin 8 => broadcastInDim S1x3x16384 ![1, 2] bcast_S3x16384_S1x3x16384_1_2 (r n))
    concatenates_S1x3x16384_S1x3x16384_S1x3x16384_S1x3x16384_S1x3x16384_S1x3x16384_S1x3x16384_S1x3x16384_S8x3x16384_d0
    rfl rfl (ix3 a q b) a rfl (ix3 0 q b) ?_).trans ?_
  · intro k hk
    match k with
    | ⟨0, _⟩ => exact absurd rfl hk
    | ⟨1, _⟩ => rfl
    | ⟨2, _⟩ => rfl
  · refine broadcastInDim_apply _ _ _ _ _ fun k => ?_
    match k with
    | ⟨0, _⟩ => rfl
    | ⟨1, _⟩ => rfl

/-- The reference's first result is the arrangement of its eight sectors' means. -/
theorem v204_arrange : val_main_v204 (F := Ideal) A0 A1
    = arrange (rowsAt A0 A1 0) (rowsAt A0 A1 1) (rowsAt A0 A1 2) (rowsAt A0 A1 3) (rowsAt A0 A1 4) (rowsAt A0 A1 5)
        (rowsAt A0 A1 6) (rowsAt A0 A1 7) := by
  rw [← rows0, ← rows1, ← rows2, ← rows3, ← rows4, ← rows5, ← rows6, ← rows7]
  rfl

/-- The reference's first result is the array of means. -/
theorem v204_eq : val_main_v204 (F := Ideal) A0 A1 = Cert.Final.meansArr A0 A1 := by
  rw [v204_arrange]
  funext i
  obtain ⟨b, a, q, rfl⟩ : ∃ (b : Fin 16384) (a : Fin 8) (q : Fin 3), i = ix3 b a q := ⟨_, _, _, eq_ix3 i⟩
  exact (arrange_apply (rowsAt A0 A1) b a q).trans (rowsAt_apply A0 A1 a q b)

/-- The reference's second result is the array of directions. -/
theorem v29_eq : val_main_v29 (F := Ideal) A0 A1 = Cert.Final.dirArr A0 A1 := by
  funext i
  obtain ⟨b, n, rfl⟩ : ∃ (b : Fin 16384) (n : Fin 64), i = ix2 b n := ⟨_, _, eq_ix2 i⟩
  exact v29_at A0 A1 b n

end Cert.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefParts
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run, its results read: the means and the directions of the arguments, the arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v204)
          = Cert.Final.meansArr (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v29)
          = Cert.Final.dirArr (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1) :=
  (θ_run Cert.ReferenceIdeal.defs _ _).mono (fun _ h c =>
    ⟨(h c).1.trans ((Cert.ReferenceIdeal.Read.val_main_v204_eq _).trans (Cert.Ref.v204_eq _ _)),
      (h c).2.1.trans ((Cert.ReferenceIdeal.Read.val_main_v29_eq _).trans (Cert.Ref.v29_eq _ _)),
      (h c).2.2.1, (h c).2.2.2⟩)
    (Cert.ReferenceIdeal.Value.run (F := Ideal) m ρ)

/-- The reference ends with its arguments unchanged and, having no semaphore, with every counter at zero. -/
theorem reference_frame : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (reference_run m ρ)

/-- From memories that agree on the arguments, the kernel and the reference end with the same two results. -/
theorem same_results : Cert.algebraic_KernelIdeal_ReferenceIdeal := fun m ρ m' ρ' _ hargs =>
  ⟨fun c => Cert.Final.meansArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Final.dirArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelRun.run m ρ,
    (θ_run Cert.ReferenceIdeal.defs _ _).mono (fun _ h c =>
      ⟨(h c).1.trans (congrArg₂ Cert.Final.meansArr (hargs c).1 (hargs c).2),
        (h c).2.1.trans (congrArg₂ Cert.Final.dirArr (hargs c).1 (hargs c).2), (h c).2.2.1, (h c).2.2.2⟩)
      (reference_run m' ρ')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
